-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def preserves_Reference_ReferenceIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S160000x256 : Shape := ⟨2, ![160000, 256]⟩
abbrev S160000 : Shape := ⟨1, ![160000]⟩
abbrev S20x1x8000 : Shape := ⟨3, ![20, 1, 8000]⟩
abbrev S1x1 : Shape := ⟨2, ![1, 1]⟩
abbrev S8000x256 : Shape := ⟨2, ![8000, 256]⟩
abbrev S1x1x8000 : Shape := ⟨3, ![1, 1, 8000]⟩
abbrev S64x256 : Shape := ⟨2, ![64, 256]⟩
abbrev S64x1 : Shape := ⟨2, ![64, 1]⟩
abbrev S20x8000 : Shape := ⟨2, ![20, 8000]⟩
abbrev S1x8000 : Shape := ⟨2, ![1, 8000]⟩
abbrev S64x8000 : Shape := ⟨2, ![64, 8000]⟩
abbrev S8x8000 : Shape := ⟨2, ![8, 8000]⟩
abbrev S64x8 : Shape := ⟨2, ![64, 8]⟩
abbrev S8x256 : Shape := ⟨2, ![8, 256]⟩
abbrev S1x256 : Shape := ⟨2, ![1, 256]⟩
abbrev S8000 : Shape := ⟨1, ![8000]⟩
abbrev S1x64x1 : Shape := ⟨3, ![1, 64, 1]⟩
abbrev S1 : Shape := ⟨1, ![1]⟩
abbrev S1x1x1 : Shape := ⟨3, ![1, 1, 1]⟩
abbrev S1x64 : Shape := ⟨2, ![1, 64]⟩
abbrev S64x64 : Shape := ⟨2, ![64, 64]⟩
abbrev S1x64x64 : Shape := ⟨3, ![1, 64, 64]⟩
abbrev S_ : Shape := ⟨0, ![]⟩

abbrev nBuf : Space → Nat
  | .hbm => 5
  | .vmem => 12
  | .smem => 0
  | _ => 0

abbrev bufTy : (tb : Table) → Fin (tcTables nBuf tb) → BufTy
  | .hbm, ⟨0, _⟩ => ⟨S160000x256, .f32⟩
  | .hbm, ⟨1, _⟩ => ⟨S160000, .i32⟩
  | .hbm, ⟨2, _⟩ => ⟨S20x1x8000, .i32⟩
  | .hbm, ⟨3, _⟩ => ⟨S1x1, .f32⟩
  | .hbm, ⟨4, _⟩ => ⟨S_, .f32⟩
  | .local _ .vmem, ⟨0, _⟩ => ⟨S8000x256, .f32⟩
  | .local _ .vmem, ⟨1, _⟩ => ⟨S8000x256, .f32⟩
  | .local _ .vmem, ⟨2, _⟩ => ⟨S1x1x8000, .i32⟩
  | .local _ .vmem, ⟨3, _⟩ => ⟨S1x1x8000, .i32⟩
  | .local _ .vmem, ⟨4, _⟩ => ⟨S1x1, .f32⟩
  | .local _ .vmem, ⟨5, _⟩ => ⟨S64x256, .f32⟩
  | .local _ .vmem, ⟨6, _⟩ => ⟨S64x1, .f32⟩
  | .local _ .vmem, ⟨7, _⟩ => ⟨S64x1, .f32⟩
  | .local _ .vmem, ⟨8, _⟩ => ⟨S64x256, .fp8e4m3⟩
  | .local _ .vmem, ⟨9, _⟩ => ⟨S64x1, .f32⟩
  | .local _ .vmem, ⟨10, _⟩ => ⟨S20x8000, .f32⟩
  | .local _ .vmem, ⟨11, _⟩ => ⟨S160000x256, .fp8e4m3⟩
  | _, _ => ⟨S160000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![2, 20], ![false, false]⟩

def k0_cond2 (i : grid0.Coords) : BitVec 1 :=
  let arg0 : BitVec 32 := BitVec.ofNat 32 (i 0).val
  let c0_i32_4 : BitVec 32 := 0#32
  let v13 : BitVec 1 := Scalar.cmpi .eq arg0 c0_i32_4
  let v14 : BitVec 32 := Scalar.extui v13
  let c0_i32_5 : BitVec 32 := 0#32
  let v15 : BitVec 1 := Scalar.cmpi .ne v14 c0_i32_5
  v15

def k0_off1 (i : grid0.Coords) : Fin 2 → Nat :=
  let arg1 : BitVec 32 := BitVec.ofNat 32 (i 1).val
  let v49 : Index := Scalar.indexCast arg1
  let c0_26 : Index := 0#32
  ![v49.toNat, 0]
def k0_off2 (i : grid0.Coords) : Fin 2 → Nat :=
  let arg1 : BitVec 32 := BitVec.ofNat 32 (i 1).val
  let c8000_i32 : BitVec 32 := 8000#32
  let v54 : BitVec 32 := Scalar.muli arg1 c8000_i32
  let v55 : Index := Scalar.indexCast v54
  let c0_27 : Index := 0#32
  ![v55.toNat, 0]
def k0_cond4 (i : grid0.Coords) : BitVec 1 :=
  let arg0 : BitVec 32 := BitVec.ofNat 32 (i 0).val
  let c1_i32_8 : BitVec 32 := 1#32
  let v21 : BitVec 1 := Scalar.cmpi .eq arg0 c1_i32_8
  let v22 : BitVec 32 := Scalar.extui v21
  let c0_i32_9 : BitVec 32 := 0#32
  let v23 : BitVec 1 := Scalar.cmpi .ne v22 c0_i32_9
  v23

def k0_off3 (i : grid0.Coords) : Fin 2 → Nat :=
  let arg1 : BitVec 32 := BitVec.ofNat 32 (i 1).val
  let c8000_i32 : BitVec 32 := 8000#32
  let v29 : BitVec 32 := Scalar.muli arg1 c8000_i32
  let v30 : Index := Scalar.indexCast v29
  let c0_12 : Index := 0#32
  ![v30.toNat, 0]
def k0_off4 (i : grid0.Coords) : Fin 2 → Nat :=
  let arg1 : BitVec 32 := BitVec.ofNat 32 (i 1).val
  let v42 : Index := Scalar.indexCast arg1
  let c0_19 : Index := 0#32
  ![v42.toNat, 0]
def k0_cond5 (i : grid0.Coords) : BitVec 1 :=
  let arg0 : BitVec 32 := BitVec.ofNat 32 (i 0).val
  let c1_i32_10 : BitVec 32 := 1#32
  let v24 : BitVec 1 := Scalar.cmpi .eq arg0 c1_i32_10
  let arg1 : BitVec 32 := BitVec.ofNat 32 (i 1).val
  let c19_i32 : BitVec 32 := 19#32
  let v25 : BitVec 1 := Scalar.cmpi .eq arg1 c19_i32
  let v26 : BitVec 1 := Scalar.andi v24 v25
  let v27 : BitVec 32 := Scalar.extui v26
  let c0_i32_11 : BitVec 32 := 0#32
  let v28 : BitVec 1 := Scalar.cmpi .ne v27 c0_i32_11
  v28

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c19_i32 : BitVec 32 := 19#32
  let v1 : BitVec 32 := Scalar.select v0 c19_i32 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== Reference.lean ====
abbrev S160000x256 : Shape := ⟨2, ![160000, 256]⟩
abbrev S160000 : Shape := ⟨1, ![160000]⟩
abbrev S_ : Shape := ⟨0, ![]⟩
abbrev S64 : Shape := ⟨1, ![64]⟩
abbrev S160000x1 : Shape := ⟨2, ![160000, 1]⟩
abbrev S64x256 : Shape := ⟨2, ![64, 256]⟩
abbrev S64x1 : Shape := ⟨2, ![64, 1]⟩
abbrev S64x1x256 : Shape := ⟨3, ![64, 1, 256]⟩
abbrev S1x64x256 : Shape := ⟨3, ![1, 64, 256]⟩
abbrev S64x64x256 : Shape := ⟨3, ![64, 64, 256]⟩
abbrev S64x64 : Shape := ⟨2, ![64, 64]⟩

abbrev nBuf : Space → Nat
  | .hbm => 104
  | .vmem => 0
  | .smem => 0
  | _ => 0

abbrev bufTy : (tb : Table) → Fin (tcTables nBuf tb) → BufTy
  | .hbm, ⟨0, _⟩ => ⟨S160000x256, .f32⟩
  | .hbm, ⟨1, _⟩ => ⟨S160000, .i32⟩
  | .hbm, ⟨2, _⟩ => ⟨S_, .f32⟩
  | .hbm, ⟨3, _⟩ => ⟨S160000, .f32⟩
  | .hbm, ⟨4, _⟩ => ⟨S_, .f32⟩
  | .hbm, ⟨5, _⟩ => ⟨S64, .f32⟩
  | .hbm, ⟨6, _⟩ => ⟨S160000x1, .i32⟩
  | .hbm, ⟨7, _⟩ => ⟨S64, .f32⟩
  | .hbm, ⟨8, _⟩ => ⟨S_, .f32⟩
  | .hbm, ⟨9, _⟩ => ⟨S64x256, .f32⟩
  | .hbm, ⟨10, _⟩ => ⟨S160000x1, .i32⟩
  | .hbm, ⟨11, _⟩ => ⟨S64x256, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S64x1, .f32⟩
  | .hbm, ⟨16, _⟩ => ⟨S64x256, .f32⟩
  | .hbm, ⟨17, _⟩ => ⟨S64x256, .f32⟩
  | .hbm, ⟨18, _⟩ => ⟨S_, .i32⟩
  | .hbm, ⟨19, _⟩ => ⟨S160000, .i32⟩
  | .hbm, ⟨20, _⟩ => ⟨S160000, .i1⟩
  | .hbm, ⟨21, _⟩ => ⟨S_, .i32⟩
  | .hbm, ⟨22, _⟩ => ⟨S160000, .i32⟩
  | .hbm, ⟨23, _⟩ => ⟨S160000, .i32⟩
  | .hbm, ⟨24, _⟩ => ⟨S160000, .i32⟩
  | .hbm, ⟨25, _⟩ => ⟨S160000x1, .i32⟩
  | .hbm, ⟨26, _⟩ => ⟨S160000x256, .f32⟩
  | .hbm, ⟨27, _⟩ => ⟨S160000x256, .f32⟩
  | .hbm, ⟨28, _⟩ => ⟨S160000x256, .f32⟩
  | .hbm, ⟨29, _⟩ => ⟨S_, .f32⟩
  | .hbm, ⟨30, _⟩ => ⟨S160000, .f32⟩
  | .hbm, ⟨31, _⟩ => ⟨S_, .f32⟩
  | .hbm, ⟨32, _⟩ => ⟨S160000, .f32⟩
  | .hbm, ⟨33, _⟩ => ⟨S160000, .f32⟩
  | .hbm, ⟨34, _⟩ => ⟨S160000, .f32⟩
  | .hbm, ⟨35, _⟩ => ⟨S_, .f32⟩
  | .hbm, ⟨36, _⟩ => ⟨S160000, .f32⟩
  | .hbm, ⟨37, _⟩ => ⟨S160000, .f32⟩
  | .hbm, ⟨38, _⟩ => ⟨S_, .f32⟩
  | .hbm, ⟨39, _⟩ => ⟨S160000, .f32⟩
  | .hbm, ⟨40, _⟩ => ⟨S160000, .f32⟩
  | .hbm, ⟨41, _⟩ => ⟨S160000, .f32⟩
  | .hbm, ⟨42, _⟩ => ⟨S_, .f32⟩
  | .hbm, ⟨43, _⟩ => ⟨S64, .f32⟩
  | .hbm, ⟨44, _⟩ => ⟨S160000x1, .i32⟩
  | .hbm, ⟨45, _⟩ => ⟨S64, .f32⟩
  | .hbm, ⟨46, _⟩ => ⟨S64, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S64x1x256, .f32⟩
  | .hbm, ⟨52, _⟩ => ⟨S1x64x256, .f32⟩
  | .hbm, ⟨53, _⟩ => ⟨S64x64x256, .f32⟩
  | .hbm, ⟨54, _⟩ => ⟨S64x64x256, .f32⟩
  | .hbm, ⟨55, _⟩ => ⟨S64x64x256, .f32⟩
  | .hbm, ⟨56, _⟩ => ⟨S64x64x256, .f32⟩
  | .hbm, ⟨57, _⟩ => ⟨S_, .f32⟩
  | .hbm, ⟨58, _⟩ => ⟨S64x64, .f32⟩
  | .hbm, ⟨59, _⟩ => ⟨S64x64, .i32⟩
  | .hbm, ⟨60, _⟩ => ⟨S64x64, .i32⟩
  | .hbm, ⟨61, _⟩ => ⟨S_, .i32⟩
  | .hbm, ⟨62, _⟩ => ⟨S64x64, .i32⟩
  | .hbm, ⟨63, _⟩ => ⟨S64x64, .i32⟩
  | .hbm, ⟨64, _⟩ => ⟨S64x64, .i1⟩
  | .hbm, ⟨65, _⟩ => ⟨S_, .f32⟩
  | .hbm, ⟨66, _⟩ => ⟨S_, .f32⟩
  | .hbm, ⟨67, _⟩ => ⟨S64x64, .f32⟩
  | .hbm, ⟨68, _⟩ => ⟨S64x64, .f32⟩
  | .hbm, ⟨69, _⟩ => ⟨S64x64, .f32⟩
  | .hbm, ⟨70, _⟩ => ⟨S_, .f32⟩
  | .hbm, ⟨71, _⟩ => ⟨S64x64, .f32⟩
  | .hbm, ⟨72, _⟩ => ⟨S64x64, .f32⟩
  | .hbm, ⟨73, _⟩ => ⟨S_, .f32⟩
  | .hbm, ⟨74, _⟩ => ⟨S64x64, .f32⟩
  | .hbm, ⟨75, _⟩ => ⟨S64x64, .f32⟩
  | .hbm, ⟨76, _⟩ => ⟨S64x64, .f32⟩
  | .hbm, ⟨77, _⟩ => ⟨S_, .f32⟩
  | .hbm, ⟨78, _⟩ => ⟨S_, .f32⟩
  | .hbm, ⟨79, _⟩ => ⟨S64x64, .f32⟩
  | .hbm, ⟨80, _⟩ => ⟨S64x64, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S64x256, .f32⟩
  | .hbm, ⟨86, _⟩ => ⟨S_, .f32⟩
  | .hbm, ⟨87, _⟩ => ⟨S64, .f32⟩
  | .hbm, ⟨88, _⟩ => ⟨S_, .f32⟩
  | .hbm, ⟨89, _⟩ => ⟨S64, .f32⟩
  | .hbm, ⟨90, _⟩ => ⟨S64, .f32⟩
  | .hbm, ⟨91, _⟩ => ⟨S64, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | _, _ => ⟨S160000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_cst_10 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_11 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_12 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_13 : Ref sig .tc := ⟨.hbm, 65, rfl⟩
abbrev main_call0_v0 : Ref sig .tc := ⟨.hbm, 66, rfl⟩
abbrev main_call0_v1 : Ref sig .tc := ⟨.hbm, 67, rfl⟩
abbrev main_v48 : Ref sig .tc := ⟨.hbm, 68, rfl⟩
abbrev main_v49 : Ref sig .tc := ⟨.hbm, 69, rfl⟩
abbrev main_cst_14 : Ref sig .tc := ⟨.hbm, 70, rfl⟩
abbrev main_v50 : Ref sig .tc := ⟨.hbm, 71, rfl⟩
abbrev main_v51 : Ref sig .tc := ⟨.hbm, 72, rfl⟩
abbrev main_cst_15 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_16 : Ref sig .tc := ⟨.hbm, 77, rfl⟩
abbrev main_call1_v0 : Ref sig .tc := ⟨.hbm, 78, rfl⟩
abbrev main_call1_v1 : Ref sig .tc := ⟨.hbm, 79, rfl⟩
abbrev main_v55 : Ref sig .tc := ⟨.hbm, 80, rfl⟩
abbrev main_cst_17 : Ref sig .tc := ⟨.hbm, 81, rfl⟩
abbrev main_v56 : Ref sig .tc := ⟨.hbm, 82, rfl⟩
abbrev main_cst_18 : Ref sig .tc := ⟨.hbm, 83, rfl⟩
abbrev main_v57 : Ref sig .tc := ⟨.hbm, 84, rfl⟩
abbrev main_v58 : Ref sig .tc := ⟨.hbm, 85, rfl⟩
abbrev main_cst_19 : Ref sig .tc := ⟨.hbm, 86, rfl⟩
abbrev main_v59 : Ref sig .tc := ⟨.hbm, 87, rfl⟩
abbrev main_cst_20 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_21 : Ref sig .tc := ⟨.hbm, 92, rfl⟩
abbrev main_v63 : Ref sig .tc := ⟨.hbm, 93, rfl⟩
abbrev main_cst_22 : Ref sig .tc := ⟨.hbm, 94, rfl⟩
abbrev main_v64 : Ref sig .tc := ⟨.hbm, 95, rfl⟩
abbrev main_cst_23 : Ref sig .tc := ⟨.hbm, 96, rfl⟩
abbrev main_v65 : Ref sig .tc := ⟨.hbm, 97, rfl⟩
abbrev main_cst_24 : Ref sig .tc := ⟨.hbm, 98, rfl⟩
abbrev main_v66 : Ref sig .tc := ⟨.hbm, 99, rfl⟩
abbrev main_v67 : Ref sig .tc := ⟨.hbm, 100, rfl⟩
abbrev main_cst_25 : Ref sig .tc := ⟨.hbm, 101, rfl⟩
abbrev main_v68 : Ref sig .tc := ⟨.hbm, 102, rfl⟩
abbrev main_v69 : Ref sig .tc := ⟨.hbm, 103, rfl⟩

abbrev nD : Nat := 1
abbrev τ : Topo := Topo.v7x

variable {F : FTy → Type} [FloatOps F]
-- ==== Proof.KernelIdeal.Cond.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic

/-! When each branch of the body is taken, by the position of the point in the grid. -/

/-- The test of the branch that clears the accumulators. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- The test of the branch that forms the means. -/
abbrev isMid (i : grid0.Coords) : Prop :=
  (Scalar.cmpi .ne (Scalar.extui (Scalar.andi (Scalar.cmpi .eq (BitVec.ofNat 32 (i 0).val) 1#32) (Scalar.cmpi .eq (BitVec.ofNat 32 (i 1).val) 0#32))) 0#32) = 1#1

/-- The first grid coordinate is the pass. -/
theorem coord_pass (t : Fin grid0.N) : (grid0.coords t 0).val = t.val / 20 % 2 :=
  Pipeline.Grid.coords_val t 0 (by decide) rfl

/-- The second grid coordinate is the block. -/
theorem coord_block (t : Fin grid0.N) : (grid0.coords t 1).val = t.val / 1 % 20 :=
  Pipeline.Grid.coords_val t 1 (by decide) rfl

/-- There are forty grid points. -/
theorem lt40 (t : Fin grid0.N) : t.val < 40 := Nat.lt_of_lt_of_eq t.isLt N_0

/-- The scratch is cleared at point 0. -/
theorem isFirst_iff (t : Fin grid0.N) : isFirst (grid0.coords t) ↔ t.val = 0 := by
  have ht := lt40 t
  simp only [isFirst, coord_pass, coord_block]
  word_cmp

/-- Pass 0 is the first twenty points. -/
theorem isPass0_iff (t : Fin grid0.N) : k0_cond2 (grid0.coords t) = 1#1 ↔ t.val < 20 := by
  have ht := lt40 t
  simp only [k0_cond2, coord_pass]
  word_cmp

/-- The means are made at point 20. -/
theorem isMid_iff (t : Fin grid0.N) : isMid (grid0.coords t) ↔ t.val = 20 := by
  have ht := lt40 t
  simp only [isMid, coord_pass, coord_block]
  word_cmp

/-- Pass 1 is the points from 20 on. -/
theorem isPass1_iff (t : Fin grid0.N) : k0_cond4 (grid0.coords t) = 1#1 ↔ 20 ≤ t.val := by
  have ht := lt40 t
  simp only [k0_cond4, coord_pass]
  word_cmp

/-- The loss is written at point 39. -/
theorem isLast_iff (t : Fin grid0.N) : k0_cond5 (grid0.coords t) = 1#1 ↔ t.val = 39 := by
  have ht := lt40 t
  simp only [k0_cond5, coord_pass, coord_block]
  word_cmp

end Cert.KernelIdeal.Hand

end
-- ==== Proof.KernelIdeal.Runs.lean ====
module

public import proofs.«01_k».proof.Proof.KernelIdeal.Cond
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! What one run of the body does in each of its five cases, on whole buffers held at named values. -/

/-- A row of the table of squared norms lies in it. -/
theorem qnInb (j : ℕ) (h : j < 20) : ∀ a : Fin S20x8000.rank, (![j, 0] : Fin 2 → ℕ) a + S1x8000.size a ≤ S20x8000.size a :=
  Fin.forall_fin_two.mpr ⟨by show j + 1 ≤ 20; omega, by show 0 + 8000 ≤ 8000; omega⟩

/-- A block of the kept features lies in them. -/
theorem cacheInb (j : ℕ) (h : j < 20) : ∀ a : Fin S160000x256.rank, (![8000 * j, 0] : Fin 2 → ℕ) a + S8000x256.size a ≤ S160000x256.size a :=
  Fin.forall_fin_two.mpr ⟨by show 8000 * j + 8000 ≤ 160000; omega, by show 0 + 256 ≤ 256; omega⟩

/-- Row `j` of the table of squared norms. -/
def qnRow (x : Vec F S20x8000 .f32) (j : ℕ) (h : j < 20) : Vec F S1x8000 .f32 :=
  VecWindow.window x ![j, 0] S1x8000.size (qnInb j h)

/-- Block `j` of the kept features. -/
def cacheBlk (x : Vec F S160000x256 .fp8e4m3) (j : ℕ) (h : j < 20) : Vec F S8000x256 .fp8e4m3 :=
  VecWindow.window x ![8000 * j, 0] S8000x256.size (cacheInb j h)

/-- The table of squared norms with row `j` replaced. -/
def qnPut (x : Vec F S20x8000 .f32) (j : ℕ) (w : Vec F S1x8000 .f32) : Vec F S20x8000 .f32 :=
  VecWindow.put x ![j, 0] S1x8000.size w

/-- The kept features with block `j` replaced. -/
def cachePut (x : Vec F S160000x256 .fp8e4m3) (j : ℕ) (w : Vec F S8000x256 .fp8e4m3) : Vec F S160000x256 .fp8e4m3 :=
  VecWindow.put x ![8000 * j, 0] S8000x256.size w

/-- A row just written reads as what was written. -/
theorem qnRow_put_same (x : Vec F S20x8000 .f32) (j : ℕ) (h : j < 20) (w : Vec F S1x8000 .f32) : qnRow (qnPut x j w) j h = w :=
  VecWindow.window_put_same _ _ _ _ _

/-- A block just written reads as what was written. -/
theorem cacheBlk_put_same (x : Vec F S160000x256 .fp8e4m3) (j : ℕ) (h : j < 20) (w : Vec F S8000x256 .fp8e4m3) :
    cacheBlk (cachePut x j w) j h = w :=
  VecWindow.window_put_same _ _ _ _ _

/-- Writing a row leaves the others. -/
theorem qnRow_put_ne (x : Vec F S20x8000 .f32) (j k : ℕ) (h : k < 20) (hne : k ≠ j) (w : Vec F S1x8000 .f32) :
    qnRow (qnPut x j w) k h = qnRow x k h :=
  VecWindow.window_put_of_disjoint x ![j, 0] S1x8000.size ![k, 0] S1x8000.size (qnInb k h) w (0 : Fin 2)
    (by show k + 1 ≤ j ∨ j + 1 ≤ k; omega)

/-- Writing a block leaves the others. -/
theorem cacheBlk_put_ne (x : Vec F S160000x256 .fp8e4m3) (j k : ℕ) (h : k < 20) (hne : k ≠ j) (w : Vec F S8000x256 .fp8e4m3) :
    cacheBlk (cachePut x j w) k h = cacheBlk x k h :=
  VecWindow.window_put_of_disjoint x ![8000 * j, 0] S8000x256.size ![8000 * k, 0] S8000x256.size (cacheInb k h) w (0 : Fin 2)
    (by show 8000 * k + 8000 ≤ 8000 * j ∨ 8000 * j + 8000 ≤ 8000 * k; omega)

/-- There are twenty blocks. -/
theorem blk_lt (i : grid0.Coords) : (i 1).val < 20 := (i 1).isLt

variable (c : Dev nD) (i : grid0.Coords)
    (arg2 : Memref sig .tc .vmem S8000x256 .f32) (harg2 : arg2.IsWhole)
    (arg3 : Memref sig .tc .vmem S1x1x8000 .i32) (harg3 : arg3.IsWhole)
    (arg4 : Memref sig .tc .vmem S1x1 .f32) (harg4 : arg4.IsWhole)
    (arg5 : Memref sig .tc .vmem S64x256 .f32) (harg5 : arg5.IsWhole)
    (arg6 : Memref sig .tc .vmem S64x1 .f32) (harg6 : arg6.IsWhole)
    (arg7 : Memref sig .tc .vmem S64x1 .f32) (harg7 : arg7.IsWhole)
    (arg8 : Memref sig .tc .vmem S64x256 .fp8e4m3) (harg8 : arg8.IsWhole)
    (arg9 : Memref sig .tc .vmem S64x1 .f32) (harg9 : arg9.IsWhole)
    (arg10 : Memref sig .tc .vmem S20x8000 .f32) (harg10 : arg10.IsWhole)
    (arg11 : Memref sig .tc .vmem S160000x256 .fp8e4m3) (harg11 : arg11.IsWhole)
    (x2 : Vec F S8000x256 .f32) (x3 : Vec F S1x1x8000 .i32) (x5 : Vec F S64x256 .f32) (x6 x7 : Vec F S64x1 .f32)
    (x8 : Vec F S64x256 .fp8e4m3) (x9 : Vec F S64x1 .f32) (x10 : Vec F S20x8000 .f32) (x11 : Vec F S160000x256 .fp8e4m3)

set_option maxHeartbeats 1000000 in
/-- The first point: the accumulators are cleared and the first block is added. -/
theorem runA (h1 : isFirst i) (h2 : k0_cond2 i = 1#1) (h3 : ¬(isMid i)) (h4 : ¬(k0_cond4 i = 1#1)) (h5 : ¬(k0_cond5 i = 1#1))
    (E : Set ℕ) (K : PUnit → sProp 𝕄) :
    iprop(owns (c : Thread nD τ) arg2 fullShare x2 ∗ owns (c : Thread nD τ) arg3 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg10 fullShare x10 ∗ owns (c : Thread nD τ) arg11 fullShare x11
        ∗ (iprop(owns (c : Thread nD τ) arg2 fullShare x2 ∗ owns (c : Thread nD τ) arg3 fullShare x3 ∗ owns (c : Thread nD τ) arg5 fullShare (k0_pay7 x3 x2 k0_pay3) ∗ owns (c : Thread nD τ) arg6 fullShare (k0_pay8 x3 k0_pay4) ∗ owns (c : Thread nD τ) arg7 fullShare k0_pay5 ∗ owns (c : Thread nD τ) arg10 fullShare (qnPut x10 (i 1).val (k0_pay9 x2)) ∗ owns (c : Thread nD τ) arg11 fullShare (cachePut x11 (i 1).val (k0_pay10 x2))) -∗ K ⟨⟩))
      ⊢ wp frame (wpE (defs₀ (F := F)) Variants.none c none) E
          (cc0__loss_body i arg2 harg2 arg3 harg3 arg4 harg4 arg5 harg5 arg6 harg6 arg7 harg7 arg8 harg8 arg9 harg9 arg10 harg10 arg11 harg11) K := by
  simp only [cc0__loss_body_eq_skeleton]; unfold cc0__loss_body_skel
  unfold owns
  iintro ⟨⟨%f2, %hf2, H2⟩, ⟨%f3, %hf3, H3⟩, ⟨%d5, %f5, -, H5⟩, ⟨%d6, %f6, -, H6⟩, ⟨%d7, %f7, -, H7⟩, ⟨%f10, %hf10, H10⟩, ⟨%f11, %hf11, H11⟩, Hk⟩
  obtain rfl := harg2.eq_unread hf2; obtain rfl := harg3.eq_unread hf3; obtain rfl := harg10.eq_unread hf10; obtain rfl := harg11.eq_unread hf11
  sl_exec (disch := first | sl_exact h1 | sl_exact h2 | sl_exact h3 | sl_exact h4 | sl_exact h5)
  sl_step
  iapply Hk
  isplitl [H2]
  · iexists _; isplitr
    swap; · iexact H2
    ipureintro
    exact hf2
  isplitl [H3]
  · iexists _; isplitr
    swap; · iexact H3
    ipureintro
    exact hf3
  isplitl [H5]
  · iexists _; isplitr
    swap; · iexact H5
    ipureintro
    refine (View.read_writes_full _ _ _ _ _).trans ?_
    unfold runA.sl.v31 runA.sl.H5_1
    rw [View.readAt_full arg3.view, hf3, View.readAt_full arg2.view, hf2, View.readCov_full arg5.view]
    first | done | rfl
  isplitl [H6]
  · iexists _; isplitr
    swap; · iexact H6
    ipureintro
    refine (View.read_writes_full _ _ _ _ _).trans ?_
    unfold runA.sl.v37 runA.sl.H6_1
    rw [View.readAt_full arg3.view, hf3, View.readCov_full arg6.view]
    first | done | rfl
  isplitl [H7]
  · iexists _; isplitr
    swap; · iexact H7
    ipureintro
    refine (View.read_writes_full _ _ _ _ _).trans ?_
    first | done | rfl
  isplitl [H10]
  · iexists _; isplitr
    swap; · iexact H10
    ipureintro
    refine (View.read_writes_cons_put _ _ _ _ _ (k0_off1_eq i)).trans ?_
    rw [View.writes_nil, View.readAt_full, hf2, hf10]; rfl
  iexists _; isplitr
  swap; · iexact H11
  ipureintro
  refine (View.read_writes_cons_put _ _ _ _ _ (k0_off2_eq i)).trans ?_
  rw [View.writes_nil, View.readAt_full, hf2, hf11]; rfl

set_option maxHeartbeats 1000000 in
/-- The other points of the first pass: a block is added to the accumulators and kept. -/
theorem runB (h1 : ¬(isFirst i)) (h2 : k0_cond2 i = 1#1) (h3 : ¬(isMid i)) (h4 : ¬(k0_cond4 i = 1#1)) (h5 : ¬(k0_cond5 i = 1#1))
    (E : Set ℕ) (K : PUnit → sProp 𝕄) :
    iprop(owns (c : Thread nD τ) arg2 fullShare x2 ∗ owns (c : Thread nD τ) arg3 fullShare x3 ∗ owns (c : Thread nD τ) arg5 fullShare x5 ∗ owns (c : Thread nD τ) arg6 fullShare x6 ∗ owns (c : Thread nD τ) arg10 fullShare x10 ∗ owns (c : Thread nD τ) arg11 fullShare x11
        ∗ (iprop(owns (c : Thread nD τ) arg2 fullShare x2 ∗ owns (c : Thread nD τ) arg3 fullShare x3 ∗ owns (c : Thread nD τ) arg5 fullShare (k0_pay7 x3 x2 x5) ∗ owns (c : Thread nD τ) arg6 fullShare (k0_pay8 x3 x6) ∗ owns (c : Thread nD τ) arg10 fullShare (qnPut x10 (i 1).val (k0_pay9 x2)) ∗ owns (c : Thread nD τ) arg11 fullShare (cachePut x11 (i 1).val (k0_pay10 x2))) -∗ K ⟨⟩))
      ⊢ wp frame (wpE (defs₀ (F := F)) Variants.none c none) E
          (cc0__loss_body i arg2 harg2 arg3 harg3 arg4 harg4 arg5 harg5 arg6 harg6 arg7 harg7 arg8 harg8 arg9 harg9 arg10 harg10 arg11 harg11) K := by
  simp only [cc0__loss_body_eq_skeleton]; unfold cc0__loss_body_skel
  unfold owns
  iintro ⟨⟨%f2, %hf2, H2⟩, ⟨%f3, %hf3, H3⟩, ⟨%f5, %hf5, H5⟩, ⟨%f6, %hf6, H6⟩, ⟨%f10, %hf10, H10⟩, ⟨%f11, %hf11, H11⟩, Hk⟩
  obtain rfl := harg2.eq_unread hf2; obtain rfl := harg3.eq_unread hf3; obtain rfl := harg5.eq_unread hf5; obtain rfl := harg6.eq_unread hf6; obtain rfl := harg10.eq_unread hf10; obtain rfl := harg11.eq_unread hf11
  sl_exec (disch := first | sl_exact h1 | sl_exact h2 | sl_exact h3 | sl_exact h4 | sl_exact h5)
  sl_step
  iapply Hk
  isplitl [H2]
  · iexists _; isplitr
    swap; · iexact H2
    ipureintro
    exact hf2
  isplitl [H3]
  · iexists _; isplitr
    swap; · iexact H3
    ipureintro
    exact hf3
  isplitl [H5]
  · iexists _; isplitr
    swap; · iexact H5
    ipureintro
    refine (View.read_writes_full _ _ _ _ _).trans ?_
    rw [View.readAt_full arg3.view, hf3, View.readAt_full arg2.view, hf2, View.readAt_full arg5.view, hf5]
    first | done | rfl
  isplitl [H6]
  · iexists _; isplitr
    swap; · iexact H6
    ipureintro
    refine (View.read_writes_full _ _ _ _ _).trans ?_
    rw [View.readAt_full arg3.view, hf3, View.readAt_full arg6.view, hf6]
    first | done | rfl
  isplitl [H10]
  · iexists _; isplitr
    swap; · iexact H10
    ipureintro
    refine (View.read_writes_cons_put _ _ _ _ _ (k0_off1_eq i)).trans ?_
    rw [View.writes_nil, View.readAt_full, hf2, hf10]; rfl
  iexists _; isplitr
  swap; · iexact H11
  ipureintro
  refine (View.read_writes_cons_put _ _ _ _ _ (k0_off2_eq i)).trans ?_
  rw [View.writes_nil, View.readAt_full, hf2, hf11]; rfl

set_option maxHeartbeats 1000000 in
/-- The first point of the second pass: the means are formed and the first block of hinges is added. -/
theorem runC (h1 : ¬(isFirst i)) (h2 : ¬(k0_cond2 i = 1#1)) (h3 : isMid i) (h4 : k0_cond4 i = 1#1) (h5 : ¬(k0_cond5 i = 1#1))
    (E : Set ℕ) (K : PUnit → sProp 𝕄) :
    iprop(owns (c : Thread nD τ) arg3 fullShare x3 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ owns (c : Thread nD τ) arg10 fullShare x10 ∗ owns (c : Thread nD τ) arg11 fullShare x11
        ∗ (iprop(owns (c : Thread nD τ) arg3 fullShare x3 ∗ owns (c : Thread nD τ) arg5 fullShare x5 ∗ owns (c : Thread nD τ) arg6 fullShare x6 ∗ owns (c : Thread nD τ) arg7 fullShare (k0_pay14 x3 (cacheBlk x11 (i 1).val (blk_lt i)) (k0_pay12 x5 x6) (k0_pay13 x5 x6) (qnRow x10 (i 1).val (blk_lt i)) x7) ∗ owns (c : Thread nD τ) arg8 fullShare (k0_pay12 x5 x6) ∗ owns (c : Thread nD τ) arg9 fullShare (k0_pay13 x5 x6) ∗ owns (c : Thread nD τ) arg10 fullShare x10 ∗ owns (c : Thread nD τ) arg11 fullShare x11) -∗ K ⟨⟩))
      ⊢ wp frame (wpE (defs₀ (F := F)) Variants.none c none) E
          (cc0__loss_body i arg2 harg2 arg3 harg3 arg4 harg4 arg5 harg5 arg6 harg6 arg7 harg7 arg8 harg8 arg9 harg9 arg10 harg10 arg11 harg11) K := by
  simp only [cc0__loss_body_eq_skeleton]; unfold cc0__loss_body_skel
  unfold owns
  iintro ⟨⟨%f3, %hf3, H3⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, Hk⟩
  obtain rfl := harg3.eq_unread hf3; obtain rfl := harg5.eq_unread hf5; obtain rfl := harg6.eq_unread hf6; obtain rfl := harg7.eq_unread hf7; obtain rfl := harg10.eq_unread hf10; obtain rfl := harg11.eq_unread hf11
  sl_exec (disch := first | sl_exact h1 | sl_exact h2 | sl_exact h3 | sl_exact h4 | sl_exact h5)
  sl_step
  iapply Hk
  isplitl [H3]
  · iexists _; isplitr
    swap; · iexact H3
    ipureintro
    exact hf3
  isplitl [H5]
  · iexists _; isplitr
    swap; · iexact H5
    ipureintro
    exact hf5
  isplitl [H6]
  · iexists _; isplitr
    swap; · iexact H6
    ipureintro
    exact hf6
  isplitl [H7]
  · iexists _; isplitr
    swap; · iexact H7
    ipureintro
    refine (View.read_writes_full _ _ _ _ _).trans ?_
    unfold runC.sl.v32 runC.sl.v36 runC.sl.H8_1 runC.sl.H9_1
    rw [View.readAt_full arg3.view, hf3, View.readAt_unit arg11.view _ _ (k0_off3_eq i) (cacheInb _ (blk_lt i)), View.readAt_unit arg10.view _ _ (k0_off4_eq i) (qnInb _ (blk_lt i)), hf10, hf11, View.readCov_full arg8.view, View.readCov_full arg9.view, View.readAt_full arg5.view, hf5, View.readAt_full arg6.view, hf6, View.readAt_full arg7.view, hf7]
    first | done | rfl
  isplitl [H8]
  · iexists _; isplitr
    swap; · iexact H8
    ipureintro
    refine (View.read_writes_full _ _ _ _ _).trans ?_
    rw [View.readAt_full arg5.view, hf5, View.readAt_full arg6.view, hf6]
    first | done | rfl
  isplitl [H9]
  · iexists _; isplitr
    swap; · iexact H9
    ipureintro
    refine (View.read_writes_full _ _ _ _ _).trans ?_
    rw [View.readAt_full arg5.view, hf5, View.readAt_full arg6.view, hf6]
    first | done | rfl
  isplitl [H10]
  · iexists _; isplitr
    swap; · iexact H10
    ipureintro
    exact hf10
  iexists _; isplitr
  swap; · iexact H11
  ipureintro
  exact hf11

set_option maxHeartbeats 1000000 in
/-- The later points of the second pass but the last: a block of hinges is added. -/
theorem runD (h1 : ¬(isFirst i)) (h2 : ¬(k0_cond2 i = 1#1)) (h3 : ¬(isMid i)) (h4 : k0_cond4 i = 1#1) (h5 : ¬(k0_cond5 i = 1#1))
    (E : Set ℕ) (K : PUnit → sProp 𝕄) :
    iprop(owns (c : Thread nD τ) arg3 fullShare x3 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
        ∗ (iprop(owns (c : Thread nD τ) arg3 fullShare x3 ∗ owns (c : Thread nD τ) arg7 fullShare (k0_pay14 x3 (cacheBlk x11 (i 1).val (blk_lt i)) x8 x9 (qnRow x10 (i 1).val (blk_lt i)) x7) ∗ owns (c : Thread nD τ) arg8 fullShare x8 ∗ owns (c : Thread nD τ) arg9 fullShare x9 ∗ owns (c : Thread nD τ) arg10 fullShare x10 ∗ owns (c : Thread nD τ) arg11 fullShare x11) -∗ K ⟨⟩))
      ⊢ wp frame (wpE (defs₀ (F := F)) Variants.none c none) E
          (cc0__loss_body i arg2 harg2 arg3 harg3 arg4 harg4 arg5 harg5 arg6 harg6 arg7 harg7 arg8 harg8 arg9 harg9 arg10 harg10 arg11 harg11) K := by
  simp only [cc0__loss_body_eq_skeleton]; unfold cc0__loss_body_skel
  unfold owns
  iintro ⟨⟨%f3, %hf3, H3⟩, ⟨%f7, %hf7, H7⟩, ⟨%f8, %hf8, H8⟩, ⟨%f9, %hf9, H9⟩, ⟨%f10, %hf10, H10⟩, ⟨%f11, %hf11, H11⟩, Hk⟩
  obtain rfl := harg3.eq_unread hf3; obtain rfl := harg7.eq_unread hf7; obtain rfl := harg8.eq_unread hf8; obtain rfl := harg9.eq_unread hf9; obtain rfl := harg10.eq_unread hf10; obtain rfl := harg11.eq_unread hf11
  sl_exec (disch := first | sl_exact h1 | sl_exact h2 | sl_exact h3 | sl_exact h4 | sl_exact h5)
  sl_step
  iapply Hk
  isplitl [H3]
  · iexists _; isplitr
    swap; · iexact H3
    ipureintro
    exact hf3
  isplitl [H7]
  · iexists _; isplitr
    swap; · iexact H7
    ipureintro
    refine (View.read_writes_full _ _ _ _ _).trans ?_
    rw [View.readAt_full arg3.view, hf3, View.readAt_unit arg11.view _ _ (k0_off3_eq i) (cacheInb _ (blk_lt i)), View.readAt_unit arg10.view _ _ (k0_off4_eq i) (qnInb _ (blk_lt i)), hf10, hf11, View.readAt_full arg8.view, hf8, View.readAt_full arg9.view, hf9, View.readAt_full arg7.view, hf7]
    first | done | rfl
  isplitl [H8]
  · iexists _; isplitr
    swap; · iexact H8
    ipureintro
    exact hf8
  isplitl [H9]
  · iexists _; isplitr
    swap; · iexact H9
    ipureintro
    exact hf9
  isplitl [H10]
  · iexists _; isplitr
    swap; · iexact H10
    ipureintro
    exact hf10
  iexists _; isplitr
  swap; · iexact H11
  ipureintro
  exact hf11

set_option maxHeartbeats 1000000 in
/-- The last point: the last block of hinges is added and the loss is stored. -/
theorem runE (h1 : ¬(isFirst i)) (h2 : ¬(k0_cond2 i = 1#1)) (h3 : ¬(isMid i)) (h4 : k0_cond4 i = 1#1) (h5 : k0_cond5 i = 1#1)
    (E : Set ℕ) (K : PUnit → sProp 𝕄) :
    iprop(owns (c : Thread nD τ) arg3 fullShare x3 ∗ (∃ d, owns (c : Thread nD τ) arg4 fullShare d) ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
        ∗ (iprop(owns (c : Thread nD τ) arg3 fullShare x3 ∗ owns (c : Thread nD τ) arg4 fullShare (k0_pay15 (k0_pay17 x6 (k0_pay14 x3 (cacheBlk x11 (i 1).val (blk_lt i)) x8 x9 (qnRow x10 (i 1).val (blk_lt i)) x7)) (k0_pay18 x6 x5 x9) x9) ∗ owns (c : Thread nD τ) arg5 fullShare x5 ∗ owns (c : Thread nD τ) arg6 fullShare x6 ∗ owns (c : Thread nD τ) arg7 fullShare (k0_pay14 x3 (cacheBlk x11 (i 1).val (blk_lt i)) x8 x9 (qnRow x10 (i 1).val (blk_lt i)) x7) ∗ owns (c : Thread nD τ) arg8 fullShare x8 ∗ owns (c : Thread nD τ) arg9 fullShare x9 ∗ owns (c : Thread nD τ) arg10 fullShare x10 ∗ owns (c : Thread nD τ) arg11 fullShare x11) -∗ K ⟨⟩))
      ⊢ wp frame (wpE (defs₀ (F := F)) Variants.none c none) E
          (cc0__loss_body i arg2 harg2 arg3 harg3 arg4 harg4 arg5 harg5 arg6 harg6 arg7 harg7 arg8 harg8 arg9 harg9 arg10 harg10 arg11 harg11) K := by
  simp only [cc0__loss_body_eq_skeleton]; unfold cc0__loss_body_skel
  simp only [k0_part1_eq_skeleton]; unfold k0_part1_skel
  unfold owns
  iintro ⟨⟨%f3, %hf3, H3⟩, ⟨%d4, %f4, -, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg3.eq_unread hf3; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  sl_exec (disch := first | sl_exact h1 | sl_exact h2 | sl_exact h3 | sl_exact h4 | sl_exact h5)
  sl_step
  iapply Hk
  isplitl [H3]
  · iexists _; isplitr
    swap; · iexact H3
    ipureintro
    exact hf3
  isplitl [H4]
  · iexists _; isplitr
    swap; · iexact H4
    ipureintro
    refine (View.read_writes_full _ _ _ _ _).trans ?_
    unfold runE.sl.v35 runE.sl.H7_1
    rw [View.readAt_full arg6.view, hf6, View.readAt_full arg5.view, hf5, View.readAt_full arg9.view, hf9, View.readCov_full arg7.view, View.readAt_full arg3.view, hf3, View.readAt_unit arg11.view _ _ (k0_off3_eq i) (cacheInb _ (blk_lt i)), View.readAt_unit arg10.view _ _ (k0_off4_eq i) (qnInb _ (blk_lt i)), hf10, hf11, View.readAt_full arg8.view, hf8, View.readAt_full arg7.view, hf7]
    first | done | rfl
  isplitl [H5]
  · iexists _; isplitr
    swap; · iexact H5
    ipureintro
    exact hf5
  isplitl [H6]
  · iexists _; isplitr
    swap; · iexact H6
    ipureintro
    exact hf6
  isplitl [H7]
  · iexists _; isplitr
    swap; · iexact H7
    ipureintro
    refine (View.read_writes_full _ _ _ _ _).trans ?_
    rw [View.readAt_full arg3.view, hf3, View.readAt_unit arg11.view _ _ (k0_off3_eq i) (cacheInb _ (blk_lt i)), View.readAt_unit arg10.view _ _ (k0_off4_eq i) (qnInb _ (blk_lt i)), hf10, hf11, View.readAt_full arg8.view, hf8, View.readAt_full arg9.view, hf9, View.readAt_full arg7.view, hf7]
    first | done | rfl
  isplitl [H8]
  · iexists _; isplitr
    swap; · iexact H8
    ipureintro
    exact hf8
  isplitl [H9]
  · iexists _; isplitr
    swap; · iexact H9
    ipureintro
    exact hf9
  isplitl [H10]
  · iexists _; isplitr
    swap; · iexact H10
    ipureintro
    exact hf10
  iexists _; isplitr
  swap; · iexact H11
  ipureintro
  exact hf11

end Cert.KernelIdeal.Hand

end
-- ==== Proof.KernelIdeal.State.lean ====
module

public import proofs.«01_k».proof.Proof.KernelIdeal.Runs

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch buffers hold between points -/

/-- The grid point at position `n`. -/
def pt (n : ℕ) : Fin cfg0.N := ⟨n % 40, Nat.lt_of_lt_of_eq (Nat.mod_lt _ (by decide)) N_0.symm⟩

/-- A grid point is the point of its number. -/
theorem pt_val (t : Fin cfg0.N) : pt t.val = t :=
  Fin.ext (Nat.mod_eq_of_lt (lt40 t))

/-- The block of features at position `n`. -/
def fblk (c : Dev nD) (n : ℕ) : Vec F S8000x256 .f32 := iblk m c 0 (pt n)
/-- The block of labels at position `n`. -/
def lblk (c : Dev nD) (n : ℕ) : Vec F S1x1x8000 .i32 := iblk m c 1 (pt n)

/-- The sums over the first `n` blocks. -/
def sumsAt (c : Dev nD) : ℕ → Vec F S64x256 .f32
  | 0 => k0_pay3
  | n + 1 => k0_pay7 (lblk m c n) (fblk m c n) (sumsAt c n)
/-- The counts over the first `n` blocks. -/
def countsAt (c : Dev nD) : ℕ → Vec F S64x1 .f32
  | 0 => k0_pay4
  | n + 1 => k0_pay8 (lblk m c n) (countsAt c n)
/-- The means, rounded. -/
def meansV (c : Dev nD) : Vec F S64x256 .fp8e4m3 := k0_pay12 (sumsAt m c 20) (countsAt m c 20)
/-- The means' squared norms. -/
def nmV (c : Dev nD) : Vec F S64x1 .f32 := k0_pay13 (sumsAt m c 20) (countsAt m c 20)
/-- The squared hinges summed by cluster over the first `n` blocks. -/
def hcAt (c : Dev nD) : ℕ → Vec F S64x1 .f32
  | 0 => k0_pay5
  | n + 1 => k0_pay14 (lblk m c (20 + n)) (k0_pay10 (fblk m c n)) (meansV m c) (nmV m c) (k0_pay9 (fblk m c n)) (hcAt c n)
/-- The loss. -/
def lossV (c : Dev nD) : Vec F S1x1 .f32 :=
  k0_pay15 (k0_pay17 (countsAt m c 20) (hcAt m c 20)) (k0_pay18 (countsAt m c 20) (sumsAt m c 20) (nmV m c)) (nmV m c)

/-- What is known of the scratch contents before position `k`. -/
structure Inv (c : Dev nD) (k : ℕ) (x5 : Vec F S64x256 .f32) (x6 x7 : Vec F S64x1 .f32) (x8 : Vec F S64x256 .fp8e4m3)
    (x9 : Vec F S64x1 .f32) (x10 : Vec F S20x8000 .f32) (x11 : Vec F S160000x256 .fp8e4m3) : Prop where
  sums : 0 < k → x5 = sumsAt m c (min k 20)
  counts : 0 < k → x6 = countsAt m c (min k 20)
  hc : 0 < k → x7 = hcAt m c (k - 20)
  means : 20 < k → x8 = meansV m c
  nm : 20 < k → x9 = nmV m c
  qn : ∀ j (h : j < 20), j < k → qnRow x10 j h = k0_pay9 (fblk m c j)
  cache : ∀ j (h : j < 20), j < k → cacheBlk x11 j h = k0_pay10 (fblk m c j)

/-- The scratch buffers as memrefs. -/
abbrev sc5 : Memref sig .tc .vmem S64x256 .f32 := Memref.whole cc0_scratch0
/-- The counts' buffer. -/
abbrev sc6 : Memref sig .tc .vmem S64x1 .f32 := Memref.whole cc0_scratch1
/-- The hinge sums' buffer. -/
abbrev sc7 : Memref sig .tc .vmem S64x1 .f32 := Memref.whole cc0_scratch2
/-- The means' buffer. -/
abbrev sc8 : Memref sig .tc .vmem S64x256 .fp8e4m3 := Memref.whole cc0_scratch3
/-- The squared norms' buffer. -/
abbrev sc9 : Memref sig .tc .vmem S64x1 .f32 := Memref.whole cc0_scratch4
/-- The buffer of the points' squared norms. -/
abbrev sc10 : Memref sig .tc .vmem S20x8000 .f32 := Memref.whole cc0_scratch5
/-- The buffer of the kept features. -/
abbrev sc11 : Memref sig .tc .vmem S160000x256 .fp8e4m3 := Memref.whole cc0_scratch6

/-- The scratch buffers held at contents of which the invariant is known, with the generator register. -/
def Held (c : Dev nD) (k : ℕ) : sProp 𝕄 :=
  iprop(∃ x5, ∃ x6, ∃ x7, ∃ x8, ∃ x9, ∃ x10, ∃ x11, ⌜Inv m c k x5 x6 x7 x8 x9 x10 x11⌝
    ∗ owns (c : Thread nD τ) sc5 fullShare x5 ∗ owns (c : Thread nD τ) sc6 fullShare x6 ∗ owns (c : Thread nD τ) sc7 fullShare x7
    ∗ owns (c : Thread nD τ) sc8 fullShare x8 ∗ owns (c : Thread nD τ) sc9 fullShare x9 ∗ owns (c : Thread nD τ) sc10 fullShare x10
    ∗ owns (c : Thread nD τ) sc11 fullShare x11 ∗ (∃ r, prngReg c r))

/-- What the launch hands over, with the scratch as memrefs. -/
theorem launch_eq (c : Dev nD) :
    (Pipeline.ΦA spec0 c : sProp 𝕄)
      = iprop(iprop((∃ d, owns (c : Thread nD τ) sc5 fullShare d) ∗ (∃ d, owns (c : Thread nD τ) sc6 fullShare d) ∗ (∃ d, owns (c : Thread nD τ) sc7 fullShare d)
        ∗ (∃ d, owns (c : Thread nD τ) sc8 fullShare d) ∗ (∃ d, owns (c : Thread nD τ) sc9 fullShare d) ∗ (∃ d, owns (c : Thread nD τ) sc10 fullShare d)
        ∗ (∃ d, owns (c : Thread nD τ) sc11 fullShare d)) ∗ (∃ r, prngReg c r)) := by
  unfold Pipeline.ΦA; rw [scopedRest0_eq]; simp only [sc5, sc6, sc7, sc8, sc9, sc10, sc11, owns_whole]; try rfl

/-- The launch's scratch satisfies the invariant before the first point. -/
theorem held_of_launch (c : Dev nD) : Pipeline.ΦA spec0 c ⊢ (Held m c 0 : sProp 𝕄) := by
  rw [launch_eq]; unfold Held
  iintro ⟨⟨⟨%x5, H5⟩, ⟨%x6, H6⟩, ⟨%x7, H7⟩, ⟨%x8, H8⟩, ⟨%x9, H9⟩, ⟨%x10, H10⟩, ⟨%x11, H11⟩⟩, Hg⟩
  iexists x5, x6, x7, x8, x9, x10, x11
  isplitr
  · ipureintro
    exact ⟨fun h => absurd h (Nat.lt_irrefl 0), fun h => absurd h (Nat.lt_irrefl 0), fun h => absurd h (Nat.lt_irrefl 0),
      fun h => absurd h (by omega), fun h => absurd h (by omega), fun _ _ h => absurd h (Nat.not_lt_zero _), fun _ _ h => absurd h (Nat.not_lt_zero _)⟩
  isplitl [H5]; · iexact H5
  isplitl [H6]; · iexact H6
  isplitl [H7]; · iexact H7
  isplitl [H8]; · iexact H8
  isplitl [H9]; · iexact H9
  isplitl [H10]; · iexact H10
  isplitl [H11]; · iexact H11
  iexact Hg

/-- The invariant gives the launch's scratch back. -/
theorem launch_of_held (c : Dev nD) (k : ℕ) : (Held m c k : sProp 𝕄) ⊢ Pipeline.ΦA spec0 c := by
  rw [launch_eq]; unfold Held
  iintro ⟨%x5, %x6, %x7, %x8, %x9, %x10, %x11, -, H5, H6, H7, H8, H9, H10, H11, Hg⟩
  isplitr [Hg]
  · isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11
  iexact Hg

/-! ## How a point carries the invariant on -/

section Steps

variable {m} {c : Dev nD} {x5 : Vec F S64x256 .f32} {x6 x7 : Vec F S64x1 .f32} {x8 : Vec F S64x256 .fp8e4m3}
    {x9 : Vec F S64x1 .f32} {x10 : Vec F S20x8000 .f32} {x11 : Vec F S160000x256 .fp8e4m3}

/-- The first point establishes the invariant. -/
theorem stepA :
    Inv m c 1 (k0_pay7 (lblk m c 0) (fblk m c 0) k0_pay3) (k0_pay8 (lblk m c 0) k0_pay4) k0_pay5 x8 x9
      (qnPut x10 0 (k0_pay9 (fblk m c 0))) (cachePut x11 0 (k0_pay10 (fblk m c 0))) where
  sums _ := rfl
  counts _ := rfl
  hc _ := rfl
  means h := absurd h (by omega)
  nm h := absurd h (by omega)
  qn j h hj := by obtain rfl : j = 0 := by omega
                  exact qnRow_put_same _ _ _ _
  cache j h hj := by obtain rfl : j = 0 := by omega
                     exact cacheBlk_put_same _ _ _ _

/-- A later point of pass 0 keeps it. -/
theorem stepB {k : ℕ} (h0 : 0 < k) (hk : k < 20) (H : Inv m c k x5 x6 x7 x8 x9 x10 x11) :
    Inv m c (k + 1) (k0_pay7 (lblk m c k) (fblk m c k) x5) (k0_pay8 (lblk m c k) x6) x7 x8 x9
      (qnPut x10 k (k0_pay9 (fblk m c k))) (cachePut x11 k (k0_pay10 (fblk m c k))) where
  sums _ := by
    rw [H.sums h0, show min k 20 = k by omega, show min (k + 1) 20 = k + 1 by omega]; rfl
  counts _ := by
    rw [H.counts h0, show min k 20 = k by omega, show min (k + 1) 20 = k + 1 by omega]; rfl
  hc _ := by rw [H.hc h0, show k - 20 = 0 by omega, show k + 1 - 20 = 0 by omega]
  means h := absurd h (by omega)
  nm h := absurd h (by omega)
  qn j h hj := by
    by_cases e : j = k
    · subst e; exact qnRow_put_same _ _ _ _
    · rw [qnRow_put_ne _ _ _ _ e]; exact H.qn j h (by omega)
  cache j h hj := by
    by_cases e : j = k
    · subst e; exact cacheBlk_put_same _ _ _ _
    · rw [cacheBlk_put_ne _ _ _ _ e]; exact H.cache j h (by omega)

/-- The first point of pass 1 keeps it, and makes the means. -/
theorem stepC (H : Inv m c 20 x5 x6 x7 x8 x9 x10 x11) :
    Inv m c 21 x5 x6 (k0_pay14 (lblk m c 20) (cacheBlk x11 0 (by decide)) (k0_pay12 x5 x6) (k0_pay13 x5 x6) (qnRow x10 0 (by decide)) x7)
      (k0_pay12 x5 x6) (k0_pay13 x5 x6) x10 x11 where
  sums _ := H.sums (by omega)
  counts _ := H.counts (by omega)
  hc _ := by
    rw [H.qn 0 _ (by omega), H.cache 0 _ (by omega), H.sums (by omega), H.counts (by omega), H.hc (by omega)]; rfl
  means _ := by rw [H.sums (by omega), H.counts (by omega)]; rfl
  nm _ := by rw [H.sums (by omega), H.counts (by omega)]; rfl
  qn j h _ := H.qn j h h
  cache j h _ := H.cache j h h

/-- The hinge sums after a point of pass 1. -/
theorem hc_next {k : ℕ} (h0 : 20 < k) (hk : k < 40) (H : Inv m c k x5 x6 x7 x8 x9 x10 x11) :
    k0_pay14 (lblk m c k) (cacheBlk x11 (k - 20) (by omega)) x8 x9 (qnRow x10 (k - 20) (by omega)) x7 = hcAt m c (k + 1 - 20) := by
  rw [H.qn (k - 20) _ (by omega), H.cache (k - 20) _ (by omega), H.means h0, H.nm h0, H.hc (by omega), show k + 1 - 20 = (k - 20) + 1 by omega]
  have e : lblk m c k = lblk m c (20 + (k - 20)) := by rw [show 20 + (k - 20) = k by omega]
  rw [e]; rfl

/-- A later point of pass 1 keeps it. -/
theorem stepD {k : ℕ} (h0 : 20 < k) (hk : k < 40) (H : Inv m c k x5 x6 x7 x8 x9 x10 x11) :
    Inv m c (k + 1) x5 x6 (k0_pay14 (lblk m c k) (cacheBlk x11 (k - 20) (by omega)) x8 x9 (qnRow x10 (k - 20) (by omega)) x7)
      x8 x9 x10 x11 where
  sums _ := by rw [H.sums (by omega), show min k 20 = 20 by omega, show min (k + 1) 20 = 20 by omega]
  counts _ := by rw [H.counts (by omega), show min k 20 = 20 by omega, show min (k + 1) 20 = 20 by omega]
  hc _ := hc_next h0 hk H
  means _ := H.means h0
  nm _ := H.nm h0
  qn j h _ := H.qn j h (by omega)
  cache j h _ := H.cache j h (by omega)

/-- At the last point the invariant gives the loss. -/
theorem loss_of (H : Inv m c 39 x5 x6 x7 x8 x9 x10 x11) :
    k0_pay15 (k0_pay17 x6 (k0_pay14 (lblk m c 39) (cacheBlk x11 19 (by decide)) x8 x9 (qnRow x10 19 (by decide)) x7)) (k0_pay18 x6 x5 x9) x9 = lossV m c := by
  have e := hc_next (by omega) (by omega) H
  rw [show (39 + 1 - 20 : ℕ) = 20 from rfl] at e
  rw [show k0_pay14 (lblk m c 39) (cacheBlk x11 19 (by decide)) x8 x9 (qnRow x10 19 (by decide)) x7 = hcAt m c 20 from e]
  rw [H.sums (by omega), H.counts (by omega), H.nm (by omega)]; rfl

end Steps

/-! ## The proof data and the body's triple -/

/-- The arrays as the region finds them; after the body the inputs' blocks in place and the loss in the output. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => lossV m c
  Φ t := Held m c t.val
  q _ := fullShare
  owed _ := 0

/-- The pipeline's arrays are those at the launch. -/
theorem A_eq (c : Dev nD) (w : Fin cfg0.W) : (dats m 0 c).A w = V m c (Pipeline.arrRef spec0 w) := by
  dsimp only [dats]

/-- The feature window is left as it was read. -/
theorem after_0 (c : Dev nD) (t : Fin cfg0.N) : (dats m 0 c).after 0 t = iblk m c 0 t := by dsimp only [dats]
/-- The label window is left as it was read. -/
theorem after_1 (c : Dev nD) (t : Fin cfg0.N) : (dats m 0 c).after 1 t = iblk m c 1 t := by dsimp only [dats]
/-- The result window is left with the loss. -/
theorem after_2 (c : Dev nD) (t : Fin cfg0.N) : (dats m 0 c).after 2 t = lossV m c := by dsimp only [dats]

/-- The feature window holds its block. -/
theorem before_0 (c : Dev nD) (t : Fin cfg0.N) (d) : (dats m 0 c).before 0 t d = iblk m c 0 t :=
  before0_0_of m (dats m 0 c) (A_eq m c 0) (after_0 m c) t d
/-- The label window holds its block. -/
theorem before_1 (c : Dev nD) (t : Fin cfg0.N) (d) : (dats m 0 c).before 1 t d = iblk m c 1 t :=
  before0_1_of m (dats m 0 c) (A_eq m c 1) (after_1 m c) t d

/-- The feature window's buffer at a point. -/
abbrev ms0 (t : Fin cfg0.N) : Memref sig .tc .vmem S8000x256 .f32 := win0_0.stage (cfg0.slots t 0)
/-- The label window's buffer at a point. -/
abbrev ms1 (t : Fin cfg0.N) : Memref sig .tc .vmem S1x1x8000 .i32 := win0_1.stage (cfg0.slots t 1)
/-- The result window's buffer at a point. -/
abbrev ms2 (t : Fin cfg0.N) : Memref sig .tc .vmem S1x1 .f32 := win0_2.stage (cfg0.slots t 2)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

/-- What the body leaves in the feature window. -/
theorem leaves_0 (c : Dev nD) (t : Fin cfg0.N) :
    (dats m 0 c).leavesExact 0 t = owns (c : Thread nD τ) (ms0 t) fullShare (iblk m c 0 t) := by
  unfold Dat.leavesExact; rw [show cfg0.idle 0 (cfg0.grid.coords t) = false from rfl, after_0]
/-- What the body leaves in the label window. -/
theorem leaves_1 (c : Dev nD) (t : Fin cfg0.N) :
    (dats m 0 c).leavesExact 1 t = owns (c : Thread nD τ) (ms1 t) fullShare (iblk m c 1 t) := by
  unfold Dat.leavesExact; rw [show cfg0.idle 1 (cfg0.grid.coords t) = false from rfl, after_1]

/-- The result window is idle before the last point. -/
theorem idle_2 (t : Fin cfg0.N) (h : t.val ≠ 39) : cfg0.idle 2 (cfg0.grid.coords t) = true := by
  show (!(k0_cond5 (grid0.coords t) == 1#1)) = true
  have := mt (isLast_iff t).mp h
  simpa using this
/-- The result window is written at the last point. -/
theorem live_2 (t : Fin cfg0.N) (h : t.val = 39) : cfg0.idle 2 (cfg0.grid.coords t) = false := by
  show (!(k0_cond5 (grid0.coords t) == 1#1)) = false
  have := (isLast_iff t).mpr h
  simpa using this
/-- The result is not written back before the last point. -/
theorem noflush_2 (t : Fin cfg0.N) (h : t.val ≠ 39) : (cfg0.win 2).flush t = false := by
  have ht := lt40 t
  rw [Bool.eq_false_iff]
  intro hf
  have := (flush0_2 t).mp hf
  omega

/-- Before the last point the result window is left alone. -/
theorem leaves_2_idle (c : Dev nD) (t : Fin cfg0.N) (h : t.val ≠ 39) :
    (dats m 0 c).leavesExact 2 t = iprop(∃ d, owns (c : Thread nD τ) (ms2 t) fullShare ((dats m 0 c).before 2 t d)) :=
  Dat.leavesExact_idle _ 2 t (idle_2 t h) (noflush_2 t h)
/-- At the last point the result window is left with the loss. -/
theorem leaves_2_last (c : Dev nD) (t : Fin cfg0.N) (h : t.val = 39) :
    (dats m 0 c).leavesExact 2 t = owns (c : Thread nD τ) (ms2 t) fullShare (lossV m c) := by
  unfold Dat.leavesExact; rw [live_2 t h, after_2]

/-- The feature block of a point by its number. -/
theorem iblk0_eq (c : Dev nD) (t : Fin cfg0.N) : iblk m c 0 t = fblk m c t.val := by unfold fblk; rw [pt_val]
/-- The label block of a point by its number. -/
theorem iblk1_eq (c : Dev nD) (t : Fin cfg0.N) : iblk m c 1 t = lblk m c t.val := by unfold lblk; rw [pt_val]

/-- In pass 0 the block is the point's number. -/
theorem blk_pass0 (t : Fin cfg0.N) (h : t.val < 20) : (grid0.coords t 1).val = t.val := by
  rw [coord_block]; omega
/-- In pass 1 the block is the point's number less 20. -/
theorem blk_pass1 (t : Fin cfg0.N) (h : 20 ≤ t.val) : (grid0.coords t 1).val = t.val - 20 := by
  have := lt40 t
  rw [coord_block]; omega

end Cert.KernelIdeal.Hand

end
-- ==== Proof.KernelIdeal.Body.lean ====
module

public import proofs.«01_k».proof.Proof.KernelIdeal.State

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves at the first point satisfies the invariant. -/
theorem invA (c : Dev nD) (t : Fin cfg0.N) (h : t.val = 0) {x5 : Vec F S64x256 .f32} {x6 x7 : Vec F S64x1 .f32} {x8 : Vec F S64x256 .fp8e4m3}
    {x9 : Vec F S64x1 .f32} {x10 : Vec F S20x8000 .f32} {x11 : Vec F S160000x256 .fp8e4m3} (HI : Inv m c t.val x5 x6 x7 x8 x9 x10 x11) :
    Inv m c (t.val + 1) (k0_pay7 (lblk m c t.val) (fblk m c t.val) k0_pay3) (k0_pay8 (lblk m c t.val) k0_pay4) (k0_pay5) (x8) (x9) (qnPut x10 (grid0.coords t 1).val (k0_pay9 (fblk m c t.val))) (cachePut x11 (grid0.coords t 1).val (k0_pay10 (fblk m c t.val))) := by
    have e : (grid0.coords t 1).val = t.val := blk_pass0 t (by omega)
    rw [e]
    rw [h]; exact stepA

set_option maxHeartbeats 1000000 in
/-- The body's obligation at the first point. -/
theorem bodyA (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = Held m c (t.val + 1) from rfl, show (dats m 0 c).Φ t.castSucc = Held m c t.val from rfl]
  rw [leaves_0, leaves_1, leaves_2_idle m c t (by omega), iblk0_eq, iblk1_eq]
  unfold Held
  iintro ⟨⟨%x5, %x6, %x7, %x8, %x9, %x10, %x11, %HI, H5, H6, H7, H8, H9, H10, H11, Hg⟩, Ho, ⟨%d2, H2⟩, ⟨%d3, H3⟩, H4⟩
  iapply (runA c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) sc5 (Memref.isWhole_whole _) sc6 (Memref.isWhole_whole _) sc7 (Memref.isWhole_whole _) sc8 (Memref.isWhole_whole _) sc9 (Memref.isWhole_whole _) sc10 (Memref.isWhole_whole _) sc11 (Memref.isWhole_whole _) (fblk m c t.val) (lblk m c t.val) (x10) (x11) ((isFirst_iff t).mpr (by omega)) ((isPass0_iff t).mpr (by omega)) (mt (isMid_iff t).mp (by omega)) (mt (isPass1_iff t).mp (by omega)) (mt (isLast_iff t).mp (by omega)) Set.univ _)
  isplitl [H2]; · iexact H2
  isplitl [H3]; · iexact H3
  isplitl [H5]; · iexists _; iexact H5
  isplitl [H6]; · iexists _; iexact H6
  isplitl [H7]; · iexists _; iexact H7
  isplitl [H10]; · iexact H10
  isplitl [H11]; · iexact H11
  iintro ⟨H2, H3, H5, H6, H7, H10, H11⟩
  isplitl [H5 H6 H7 H8 H9 H10 H11 Hg]
  · iexists (k0_pay7 (lblk m c t.val) (fblk m c t.val) k0_pay3), (k0_pay8 (lblk m c t.val) k0_pay4), (k0_pay5), (x8), (x9), (qnPut x10 (grid0.coords t 1).val (k0_pay9 (fblk m c t.val))), (cachePut x11 (grid0.coords t 1).val (k0_pay10 (fblk m c t.val)))
    isplitr
    · ipureintro; exact invA m c t h HI
    isplitl [H5]; · iexact H5
    isplitl [H6]; · iexact H6
    isplitl [H7]; · iexact H7
    isplitl [H8]; · iexact H8
    isplitl [H9]; · iexact H9
    isplitl [H10]; · iexact H10
    isplitl [H11]; · iexact H11
    iexact Hg
  isplitl [Ho]; · iexact Ho
  isplitl [H2]; · iexact H2
  isplitl [H3]; · iexact H3
  iexact H4

/-- What the body leaves at a later point of pass 0 satisfies the invariant. -/
theorem invB (c : Dev nD) (t : Fin cfg0.N) (h0 : 0 < t.val) (h : t.val < 20) {x5 : Vec F S64x256 .f32} {x6 x7 : Vec F S64x1 .f32} {x8 : Vec F S64x256 .fp8e4m3}
    {x9 : Vec F S64x1 .f32} {x10 : Vec F S20x8000 .f32} {x11 : Vec F S160000x256 .fp8e4m3} (HI : Inv m c t.val x5 x6 x7 x8 x9 x10 x11) :
    Inv m c (t.val + 1) (k0_pay7 (lblk m c t.val) (fblk m c t.val) x5) (k0_pay8 (lblk m c t.val) x6) (x7) (x8) (x9) (qnPut x10 (grid0.coords t 1).val (k0_pay9 (fblk m c t.val))) (cachePut x11 (grid0.coords t 1).val (k0_pay10 (fblk m c t.val))) := by
    have e : (grid0.coords t 1).val = t.val := blk_pass0 t (by omega)
    rw [e]
    exact stepB h0 h HI

set_option maxHeartbeats 1000000 in
/-- The body's obligation at a later point of pass 0. -/
theorem bodyB (c : Dev nD) (t : Fin cfg0.N) (h0 : 0 < t.val) (h : t.val < 20) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = Held m c (t.val + 1) from rfl, show (dats m 0 c).Φ t.castSucc = Held m c t.val from rfl]
  rw [leaves_0, leaves_1, leaves_2_idle m c t (by omega), iblk0_eq, iblk1_eq]
  unfold Held
  iintro ⟨⟨%x5, %x6, %x7, %x8, %x9, %x10, %x11, %HI, H5, H6, H7, H8, H9, H10, H11, Hg⟩, Ho, ⟨%d2, H2⟩, ⟨%d3, H3⟩, H4⟩
  iapply (runB c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) sc5 (Memref.isWhole_whole _) sc6 (Memref.isWhole_whole _) sc7 (Memref.isWhole_whole _) sc8 (Memref.isWhole_whole _) sc9 (Memref.isWhole_whole _) sc10 (Memref.isWhole_whole _) sc11 (Memref.isWhole_whole _) (fblk m c t.val) (lblk m c t.val) (x5) (x6) (x10) (x11) (mt (isFirst_iff t).mp (by omega)) ((isPass0_iff t).mpr (by omega)) (mt (isMid_iff t).mp (by omega)) (mt (isPass1_iff t).mp (by omega)) (mt (isLast_iff t).mp (by omega)) Set.univ _)
  isplitl [H2]; · iexact H2
  isplitl [H3]; · iexact H3
  isplitl [H5]; · iexact H5
  isplitl [H6]; · iexact H6
  isplitl [H10]; · iexact H10
  isplitl [H11]; · iexact H11
  iintro ⟨H2, H3, H5, H6, H10, H11⟩
  isplitl [H5 H6 H7 H8 H9 H10 H11 Hg]
  · iexists (k0_pay7 (lblk m c t.val) (fblk m c t.val) x5), (k0_pay8 (lblk m c t.val) x6), (x7), (x8), (x9), (qnPut x10 (grid0.coords t 1).val (k0_pay9 (fblk m c t.val))), (cachePut x11 (grid0.coords t 1).val (k0_pay10 (fblk m c t.val)))
    isplitr
    · ipureintro; exact invB m c t h0 h HI
    isplitl [H5]; · iexact H5
    isplitl [H6]; · iexact H6
    isplitl [H7]; · iexact H7
    isplitl [H8]; · iexact H8
    isplitl [H9]; · iexact H9
    isplitl [H10]; · iexact H10
    isplitl [H11]; · iexact H11
    iexact Hg
  isplitl [Ho]; · iexact Ho
  isplitl [H2]; · iexact H2
  isplitl [H3]; · iexact H3
  iexact H4

/-- What the body leaves at the first point of pass 1 satisfies the invariant. -/
theorem invC (c : Dev nD) (t : Fin cfg0.N) (h : t.val = 20) {x5 : Vec F S64x256 .f32} {x6 x7 : Vec F S64x1 .f32} {x8 : Vec F S64x256 .fp8e4m3}
    {x9 : Vec F S64x1 .f32} {x10 : Vec F S20x8000 .f32} {x11 : Vec F S160000x256 .fp8e4m3} (HI : Inv m c t.val x5 x6 x7 x8 x9 x10 x11) :
    Inv m c (t.val + 1) (x5) (x6) (k0_pay14 (lblk m c t.val) (cacheBlk x11 (grid0.coords t 1).val (blk_lt _)) (k0_pay12 x5 x6) (k0_pay13 x5 x6) (qnRow x10 (grid0.coords t 1).val (blk_lt _)) x7) (k0_pay12 x5 x6) (k0_pay13 x5 x6) (x10) (x11) := by
    have e : ∀ (j : ℕ) (hj : j < 20), j = t.val - 20 → Inv m c (t.val + 1) (x5) (x6) (k0_pay14 (lblk m c t.val) (cacheBlk x11 j hj) (k0_pay12 x5 x6) (k0_pay13 x5 x6) (qnRow x10 j hj) x7) (k0_pay12 x5 x6) (k0_pay13 x5 x6) (x10) (x11) := by
      intro j hj ej; subst ej
      have ht : t.val = 20 := h
      generalize t.val = k at *
      subst h; exact stepC HI
    exact e _ _ (blk_pass1 t (by omega))

set_option maxHeartbeats 1000000 in
/-- The body's obligation at the first point of pass 1. -/
theorem bodyC (c : Dev nD) (t : Fin cfg0.N) (h : t.val = 20) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = Held m c (t.val + 1) from rfl, show (dats m 0 c).Φ t.castSucc = Held m c t.val from rfl]
  rw [leaves_0, leaves_1, leaves_2_idle m c t (by omega), iblk0_eq, iblk1_eq]
  unfold Held
  iintro ⟨⟨%x5, %x6, %x7, %x8, %x9, %x10, %x11, %HI, H5, H6, H7, H8, H9, H10, H11, Hg⟩, Ho, ⟨%d2, H2⟩, ⟨%d3, H3⟩, H4⟩
  iapply (runC c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) sc5 (Memref.isWhole_whole _) sc6 (Memref.isWhole_whole _) sc7 (Memref.isWhole_whole _) sc8 (Memref.isWhole_whole _) sc9 (Memref.isWhole_whole _) sc10 (Memref.isWhole_whole _) sc11 (Memref.isWhole_whole _) (lblk m c t.val) (x5) (x6) (x7) (x10) (x11) (mt (isFirst_iff t).mp (by omega)) (mt (isPass0_iff t).mp (by omega)) ((isMid_iff t).mpr (by omega)) ((isPass1_iff t).mpr (by omega)) (mt (isLast_iff t).mp (by omega)) Set.univ _)
  isplitl [H3]; · iexact H3
  isplitl [H5]; · iexact H5
  isplitl [H6]; · iexact H6
  isplitl [H7]; · iexact H7
  isplitl [H8]; · iexists _; iexact H8
  isplitl [H9]; · iexists _; iexact H9
  isplitl [H10]; · iexact H10
  isplitl [H11]; · iexact H11
  iintro ⟨H3, H5, H6, H7, H8, H9, H10, H11⟩
  isplitl [H5 H6 H7 H8 H9 H10 H11 Hg]
  · iexists (x5), (x6), (k0_pay14 (lblk m c t.val) (cacheBlk x11 (grid0.coords t 1).val (blk_lt _)) (k0_pay12 x5 x6) (k0_pay13 x5 x6) (qnRow x10 (grid0.coords t 1).val (blk_lt _)) x7), (k0_pay12 x5 x6), (k0_pay13 x5 x6), (x10), (x11)
    isplitr
    · ipureintro; exact invC m c t h HI
    isplitl [H5]; · iexact H5
    isplitl [H6]; · iexact H6
    isplitl [H7]; · iexact H7
    isplitl [H8]; · iexact H8
    isplitl [H9]; · iexact H9
    isplitl [H10]; · iexact H10
    isplitl [H11]; · iexact H11
    iexact Hg
  isplitl [Ho]; · iexact Ho
  isplitl [H2]; · iexact H2
  isplitl [H3]; · iexact H3
  iexact H4

/-- What the body leaves at a later point of pass 1 satisfies the invariant. -/
theorem invD (c : Dev nD) (t : Fin cfg0.N) (h0 : 20 < t.val) (h : t.val < 39) {x5 : Vec F S64x256 .f32} {x6 x7 : Vec F S64x1 .f32} {x8 : Vec F S64x256 .fp8e4m3}
    {x9 : Vec F S64x1 .f32} {x10 : Vec F S20x8000 .f32} {x11 : Vec F S160000x256 .fp8e4m3} (HI : Inv m c t.val x5 x6 x7 x8 x9 x10 x11) :
    Inv m c (t.val + 1) (x5) (x6) (k0_pay14 (lblk m c t.val) (cacheBlk x11 (grid0.coords t 1).val (blk_lt _)) x8 x9 (qnRow x10 (grid0.coords t 1).val (blk_lt _)) x7) (x8) (x9) (x10) (x11) := by
    have e : ∀ (j : ℕ) (hj : j < 20), j = t.val - 20 → Inv m c (t.val + 1) (x5) (x6) (k0_pay14 (lblk m c t.val) (cacheBlk x11 j hj) x8 x9 (qnRow x10 j hj) x7) (x8) (x9) (x10) (x11) := by
      intro j hj ej; subst ej
      exact stepD h0 (by omega) HI
    exact e _ _ (blk_pass1 t (by omega))

set_option maxHeartbeats 1000000 in
/-- The body's obligation at a later point of pass 1. -/
theorem bodyD (c : Dev nD) (t : Fin cfg0.N) (h0 : 20 < t.val) (h : t.val < 39) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = Held m c (t.val + 1) from rfl, show (dats m 0 c).Φ t.castSucc = Held m c t.val from rfl]
  rw [leaves_0, leaves_1, leaves_2_idle m c t (by omega), iblk0_eq, iblk1_eq]
  unfold Held
  iintro ⟨⟨%x5, %x6, %x7, %x8, %x9, %x10, %x11, %HI, H5, H6, H7, H8, H9, H10, H11, Hg⟩, Ho, ⟨%d2, H2⟩, ⟨%d3, H3⟩, H4⟩
  iapply (runD c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) sc5 (Memref.isWhole_whole _) sc6 (Memref.isWhole_whole _) sc7 (Memref.isWhole_whole _) sc8 (Memref.isWhole_whole _) sc9 (Memref.isWhole_whole _) sc10 (Memref.isWhole_whole _) sc11 (Memref.isWhole_whole _) (lblk m c t.val) (x7) (x8) (x9) (x10) (x11) (mt (isFirst_iff t).mp (by omega)) (mt (isPass0_iff t).mp (by omega)) (mt (isMid_iff t).mp (by omega)) ((isPass1_iff t).mpr (by omega)) (mt (isLast_iff t).mp (by omega)) Set.univ _)
  isplitl [H3]; · iexact H3
  isplitl [H7]; · iexact H7
  isplitl [H8]; · iexact H8
  isplitl [H9]; · iexact H9
  isplitl [H10]; · iexact H10
  isplitl [H11]; · iexact H11
  iintro ⟨H3, H7, H8, H9, H10, H11⟩
  isplitl [H5 H6 H7 H8 H9 H10 H11 Hg]
  · iexists (x5), (x6), (k0_pay14 (lblk m c t.val) (cacheBlk x11 (grid0.coords t 1).val (blk_lt _)) x8 x9 (qnRow x10 (grid0.coords t 1).val (blk_lt _)) x7), (x8), (x9), (x10), (x11)
    isplitr
    · ipureintro; exact invD m c t h0 h HI
    isplitl [H5]; · iexact H5
    isplitl [H6]; · iexact H6
    isplitl [H7]; · iexact H7
    isplitl [H8]; · iexact H8
    isplitl [H9]; · iexact H9
    isplitl [H10]; · iexact H10
    isplitl [H11]; · iexact H11
    iexact Hg
  isplitl [Ho]; · iexact Ho
  isplitl [H2]; · iexact H2
  isplitl [H3]; · iexact H3
  iexact H4

/-- What the body leaves at the last point satisfies the invariant. -/
theorem invE (c : Dev nD) (t : Fin cfg0.N) (h : t.val = 39) {x5 : Vec F S64x256 .f32} {x6 x7 : Vec F S64x1 .f32} {x8 : Vec F S64x256 .fp8e4m3}
    {x9 : Vec F S64x1 .f32} {x10 : Vec F S20x8000 .f32} {x11 : Vec F S160000x256 .fp8e4m3} (HI : Inv m c t.val x5 x6 x7 x8 x9 x10 x11) :
    Inv m c (t.val + 1) (x5) (x6) (k0_pay14 (lblk m c t.val) (cacheBlk x11 (grid0.coords t 1).val (blk_lt _)) x8 x9 (qnRow x10 (grid0.coords t 1).val (blk_lt _)) x7) (x8) (x9) (x10) (x11) := by
    have e : ∀ (j : ℕ) (hj : j < 20), j = t.val - 20 → Inv m c (t.val + 1) (x5) (x6) (k0_pay14 (lblk m c t.val) (cacheBlk x11 j hj) x8 x9 (qnRow x10 j hj) x7) (x8) (x9) (x10) (x11) := by
      intro j hj ej; subst ej
      exact stepD (by omega) (by omega) HI
    exact e _ _ (blk_pass1 t (by omega))

/-- What the body writes at the last point is the loss. -/
theorem lossE (c : Dev nD) (t : Fin cfg0.N) (h : t.val = 39) {x5 : Vec F S64x256 .f32} {x6 x7 : Vec F S64x1 .f32} {x8 : Vec F S64x256 .fp8e4m3}
    {x9 : Vec F S64x1 .f32} {x10 : Vec F S20x8000 .f32} {x11 : Vec F S160000x256 .fp8e4m3} (HI : Inv m c t.val x5 x6 x7 x8 x9 x10 x11) :
    k0_pay15 (k0_pay17 x6 (k0_pay14 (lblk m c t.val) (cacheBlk x11 (grid0.coords t 1).val (blk_lt _)) x8 x9 (qnRow x10 (grid0.coords t 1).val (blk_lt _)) x7)) (k0_pay18 x6 x5 x9) x9 = lossV m c := by
  have e : ∀ (j : ℕ) (hj : j < 20), j = t.val - 20 → k0_pay15 (k0_pay17 x6 (k0_pay14 (lblk m c t.val) (cacheBlk x11 j hj) x8 x9 (qnRow x10 j hj) x7)) (k0_pay18 x6 x5 x9) x9 = lossV m c := by
    intro j hj ej; subst ej
    generalize t.val = k at *
    subst h; exact loss_of HI
  exact e _ _ (blk_pass1 t (by omega))

set_option maxHeartbeats 1000000 in
/-- The body's obligation at the last point. -/
theorem bodyE (c : Dev nD) (t : Fin cfg0.N) (h : t.val = 39) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = Held m c (t.val + 1) from rfl, show (dats m 0 c).Φ t.castSucc = Held m c t.val from rfl]
  rw [leaves_0, leaves_1, leaves_2_last m c t h, iblk0_eq, iblk1_eq]
  unfold Held
  iintro ⟨⟨%x5, %x6, %x7, %x8, %x9, %x10, %x11, %HI, H5, H6, H7, H8, H9, H10, H11, Hg⟩, Ho, ⟨%d2, H2⟩, ⟨%d3, H3⟩, ⟨%d4, H4⟩⟩
  iapply (runE c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) sc5 (Memref.isWhole_whole _) sc6 (Memref.isWhole_whole _) sc7 (Memref.isWhole_whole _) sc8 (Memref.isWhole_whole _) sc9 (Memref.isWhole_whole _) sc10 (Memref.isWhole_whole _) sc11 (Memref.isWhole_whole _) (lblk m c t.val) (x5) (x6) (x7) (x8) (x9) (x10) (x11) (mt (isFirst_iff t).mp (by omega)) (mt (isPass0_iff t).mp (by omega)) (mt (isMid_iff t).mp (by omega)) ((isPass1_iff t).mpr (by omega)) ((isLast_iff t).mpr (by omega)) Set.univ _)
  isplitl [H3]; · iexact H3
  isplitl [H4]; · iexists _; iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H3, H4, H5, H6, H7, H8, H9, H10, H11⟩
  isplitl [H5 H6 H7 H8 H9 H10 H11 Hg]
  · iexists (x5), (x6), (k0_pay14 (lblk m c t.val) (cacheBlk x11 (grid0.coords t 1).val (blk_lt _)) x8 x9 (qnRow x10 (grid0.coords t 1).val (blk_lt _)) x7), (x8), (x9), (x10), (x11)
    isplitr
    · ipureintro; exact invE m c t h HI
    isplitl [H5]; · iexact H5
    isplitl [H6]; · iexact H6
    isplitl [H7]; · iexact H7
    isplitl [H8]; · iexact H8
    isplitl [H9]; · iexact H9
    isplitl [H10]; · iexact H10
    isplitl [H11]; · iexact H11
    iexact Hg
  isplitl [Ho]; · iexact Ho
  isplitl [H2]; · iexact H2
  isplitl [H3]; · iexact H3
  rw [lossE m c t h HI]
  iexact H4

/-- The body at any point. -/
theorem sound_body (c : Dev nD) (t : Fin cfg0.N) :
    bodyPre m c t ⊢ wp frame (wpE (defs₀ (F := F)) Variants.none c none) Set.univ (bodyAt0 t) (fun _ => bodyPost m c t) := by
  have ht := lt40 t
  by_cases hA : t.val = 0
  · exact bodyA m c t hA
  by_cases hB : t.val < 20
  · exact bodyB m c t (by omega) hB
  by_cases hC : t.val = 20
  · exact bodyC m c t hC
  by_cases hE : t.val = 39
  · exact bodyE m c t hE
  exact bodyD m c t (by omega) (by omega)

end Cert.KernelIdeal.Hand

end
-- ==== Proof.KernelIdeal.Launch.lean ====
module

public import proofs.«01_k».proof.Proof.KernelIdeal.Body
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

/-- The body table at the kernel's label. -/
theorem defs₀_row (t : Fin cfg0.N) :
    defs₀ (F := F) .tc cfg0.body (cfg0.bodyArgs t (cfg0.slots t)) = bodyAt0 t := by
  unfold defs₀; rw [Defs.onTc_tc]

/-- The body keeps the proof data at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch starts from gives the invariant before the first point. -/
theorem hin (c : Dev nD) : Pipeline.ΦA spec0 c ⊢ (dats m 0 c).Φ 0 := held_of_launch m c

/-- The invariant after the last point gives back what the launch ends with. -/
theorem hout (c : Dev nD) : (dats m 0 c).Φ (Fin.last cfg0.N) ⊢ Pipeline.ΦA spec0 c := launch_of_held m c _

set_option backward.isDefEq.respectTransparency.types false in
set_option maxHeartbeats 800000 in
/-- The program runs to the end with every array at what the proof data say and every counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The whole program runs and leaves what the pipeline's data say. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end unchanged and every counter at zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.KernelFrame.lean ====
module

public import proofs.«01_k».proof.Defs
public import proofs.«01_k».proof.Proof.KernelIdeal.Launch
public import proofs.«01_k».proof.Proof.Gen.Kernel

@[expose] public section

noncomputable section

namespace Cert.Kernel.Hand

open Idealize.ShloMosaic Idealize.SL.Sem

/-! ## The kernel's frame, from its ideal reading's: the two programs are one text -/

/-- The two kernels' body tables are one table. -/
theorem defs₀_eq : Cert.Kernel.defs₀ (F := Bits) = Cert.KernelIdeal.defs₀ := by
  refine congrArg Defs.onTc (funext fun l => funext fun a => ?_)
  obtain rfl : l = 0 := Subsingleton.elim _ _
  obtain ⟨t, s⟩ := a
  rfl

/-- The two programs' tables are one table. -/
theorem defs_eq : Cert.Kernel.defs (F := Bits) = Cert.KernelIdeal.defs := congrArg (Pipeline.defs Cert.Kernel.pcfgs) defs₀_eq

/-- The kernel ends with its arguments unchanged and every counter zero. -/
theorem frame : Cert.quiescent_Kernel (hKernel := Cert.Kernel.Gen.facts) := fun m g _ => by
  rw [defs_eq]
  exact Cert.KernelIdeal.Hand.frame_quiescent (F := Bits) m g

end Cert.Kernel.Hand

end
-- ==== Proof.ReferenceIdeal.Scatter.lean ====
module

public import proofs.«01_k».proof.Proof.Gen.ReferenceIdeal.Run
public import Idealize.ShloMosaic.Lib.Pointwise

@[expose] public section

set_option maxRecDepth 16384

noncomputable section

namespace Cert.ReferenceIdeal.Hand

open Cert.ReferenceIdeal Cert.ReferenceIdeal.Gen
open Idealize.ShloMosaic

/-! ## The reference's segment sums at an index -/

/-- An update lands at an element exactly when its start and window coordinates add up to that element's, on every axis. -/
theorem lands_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  by_cases h : ∀ a, 0 ≤ d.start j idx a + d.window j a ∧ d.start j idx a + d.window j a < s.size a
  · rw [dif_pos h, Option.some.injEq]
    constructor
    · rintro rfl a
      exact (Int.toNat_of_nonneg (h a).1).symm
    · exact fun e => funext fun a => Fin.ext (by
        show (d.start j idx a + (d.window j a : Int)).toNat = (i a).val
        rw [e a]; rfl)
  · rw [dif_neg h]
    refine ⟨fun e => (Option.some_ne_none _ e.symm).elim, fun e => absurd (fun a => ?_) h⟩
    rw [e a]
    exact ⟨Int.natCast_nonneg _, Int.ofNat_lt.2 (i a).isLt⟩

/-- Where an update of the segment sum of scalars starts. -/
theorem start1 (idx : IVec S160000x1 32) (r : Fin 160000) :
    scatter_S64_S160000x1_S160000_n_0_0_1.start (ix1 r) idx 0 = (idx (ix2 r 0)).toInt := by
  show (idx _).toInt = _
  refine congrArg (fun i => (idx i).toInt) (funext fun b => ?_)
  match b with
  | ⟨0, _⟩ => rfl
  | ⟨1, _⟩ => rfl

/-- Where an update of the segment sum of rows starts, on the axis of clusters. -/
theorem start2 (idx : IVec S160000x1 32) (r : Fin 160000) (d : Fin 256) :
    scatter_S64x256_S160000x1_S160000x256_1_0_0_1.start (ix2 r d) idx 0 = (idx (ix2 r 0)).toInt := by
  show (idx _).toInt = _
  refine congrArg (fun i => (idx i).toInt) (funext fun b => ?_)
  match b with
  | ⟨0, _⟩ => rfl
  | ⟨1, _⟩ => rfl

/-- Update `r` of the segment sum of scalars lands at cluster `k` exactly when its index word is `k`. -/
theorem lands1 (idx : IVec S160000x1 32) (r : Fin 160000) (k : Fin 64) :
    scatter_S64_S160000x1_S160000_n_0_0_1.resultIdx? (ix1 r) idx = some (ix1 k) ↔ (idx (ix2 r 0)).toInt = (k.val : Int) := by
  rw [lands_iff, ← start1 idx r]
  constructor
  · exact fun h => (add_zero _).symm.trans (h 0)
  · intro h a
    match a with
    | ⟨0, _⟩ => exact (add_zero _).trans h

/-- Update `(r, d')` of the segment sum of rows lands at `(k, d)` exactly when its index word is `k` and its column is `d`. -/
theorem lands2 (idx : IVec S160000x1 32) (r : Fin 160000) (d' : Fin 256) (k : Fin 64) (d : Fin 256) :
    scatter_S64x256_S160000x1_S160000x256_1_0_0_1.resultIdx? (ix2 r d') idx = some (ix2 k d)
      ↔ (idx (ix2 r 0)).toInt = (k.val : Int) ∧ d' = d := by
  rw [lands_iff, ← start2 idx r d']
  constructor
  · intro h
    refine ⟨(add_zero _).symm.trans (h 0), Fin.ext ?_⟩
    have h1 : (0 : Int) + (d'.val : Int) = (d.val : Int) := h 1
    omega
  · rintro ⟨h, rfl⟩ a
    match a with
    | ⟨0, _⟩ => exact (add_zero _).trans h
    | ⟨1, _⟩ => exact zero_add _

/-- A sum over the indices of a vector is the sum over its positions. -/
theorem sum_vec {n : Nat} (f : (⟨1, ![n]⟩ : Shape).Idx → EReal) : ∑ j, f j = ∑ r : Fin n, f (ix1 r) :=
  Fintype.sum_equiv ⟨fun j => j 0, ix1, fun j => (eq_ix1 j).symm, fun _ => rfl⟩ _ _ fun j => congrArg f (eq_ix1 j)

/-- The segment sum of scalars: each cluster's element plus the updates of its points. -/
theorem segment1 (x : FVec Ideal S64 .f32) (idx : IVec S160000x1 32) (u : FVec Ideal S160000 .f32) (k : Fin 64) :
    Host.scatterAdd scatter_S64_S160000x1_S160000_n_0_0_1 x idx u (ix1 k)
      = x (ix1 k) + ∑ r : Fin 160000, if (idx (ix2 r 0)).toInt = (k.val : Int) then u (ix1 r) else 0 := by
  show x (ix1 k) + ∑ j ∈ Finset.univ.filter (fun j => scatter_S64_S160000x1_S160000_n_0_0_1.resultIdx? j idx = some (ix1 k)), u j = _
  rw [Finset.sum_filter, sum_vec]
  refine congrArg (x (ix1 k) + ·) (Finset.sum_congr rfl fun r _ => ?_)
  exact if_congr (lands1 idx r k) rfl rfl

/-- The segment sum of rows: each cluster's row plus the rows of its points. -/
theorem segment2 (x : FVec Ideal S64x256 .f32) (idx : IVec S160000x1 32) (u : FVec Ideal S160000x256 .f32) (k : Fin 64) (d : Fin 256) :
    Host.scatterAdd scatter_S64x256_S160000x1_S160000x256_1_0_0_1 x idx u (ix2 k d)
      = x (ix2 k d) + ∑ r : Fin 160000, if (idx (ix2 r 0)).toInt = (k.val : Int) then u (ix2 r d) else 0 := by
  show x (ix2 k d) + ∑ j ∈ Finset.univ.filter (fun j => scatter_S64x256_S160000x1_S160000x256_1_0_0_1.resultIdx? j idx = some (ix2 k d)), u j = _
  rw [Finset.sum_filter, sum_idx2]
  refine congrArg (x (ix2 k d) + ·) (Finset.sum_congr rfl fun r _ => ?_)
  refine (Finset.sum_congr rfl fun d' _ => if_congr (lands2 idx r d' k d) rfl rfl).trans ?_
  by_cases h : (idx (ix2 r 0)).toInt = (k.val : Int)
  · simp only [h, true_and, if_true, Finset.sum_ite_eq', Finset.mem_univ]
  · simp only [h, false_and, if_false, Finset.sum_const_zero]

end Cert.ReferenceIdeal.Hand

end
-- ==== Proof.Loss.lean ====
module

public import Idealize.ShloMosaic.Lib.Pointwise

@[expose] public section

noncomputable section

namespace Cert.Loss

open Idealize.ShloMosaic

/-! ## The loss, in the extended reals

Points `x r` of 256 coordinates with label words `w r`. A point whose word is the number of no cluster belongs to none. -/

/-- The number of a cluster as a label word. -/
def num (k : Fin 64) : BitVec 32 := BitVec.ofNat 32 k.val

/-- The indicator of a label word being the number of a cluster. -/
def hot (w : BitVec 32) (k : Fin 64) : EReal := if w = num k then 1 else 0

/-- A point's hinge value from its squared distance `v` to its mean: the root of `v` (raised to a small floor), less one half, not below zero, squared. -/
def hinge (v : EReal) : EReal :=
  max (Ideal.sqrt (max v (Ideal.ofBits .f32 0x2B8CBCCC#32)) - Ideal.ofBits .f32 0x3F000000#32) 0
    * max (Ideal.sqrt (max v (Ideal.ofBits .f32 0x2B8CBCCC#32)) - Ideal.ofBits .f32 0x3F000000#32) 0

/-- The penalty of two clusters from the squared distance `v` of their means: zero for a cluster with itself. -/
def push (i j : Fin 64) (v : EReal) : EReal :=
  if i = j then 0 else max (Ideal.ofBits .f32 0x40400000#32 - Ideal.sqrt v) 0 * max (Ideal.ofBits .f32 0x40400000#32 - Ideal.sqrt v) 0

/-- The norm of a mean from its squared norm, raised to a small floor. -/
def normOf (v : EReal) : EReal := Ideal.sqrt (max v (Ideal.ofBits .f32 0x2B8CBCCC#32))

/-- The weighted sum of the three terms, each an average. -/
def weigh (a b c : EReal) : EReal :=
  Ideal.ofBits .f32 0x3DCCCCCD#32 * Ideal.div a (Ideal.ofBits .f32 0x42800000#32) + Ideal.div b (Ideal.ofBits .f32 0x457C0000#32)
    + Ideal.ofBits .f32 0x3A83126F#32 * Ideal.div c (Ideal.ofBits .f32 0x42800000#32)

/-- A choice on a comparison of two cluster numbers is the choice on the numbers. -/
theorem select_eq (i j : Fin 64) (a b : EReal) :
    Scalar.select (IntOp.cmpi CmpIPredicate.eq (BitVec.ofNat 32 i.val) (BitVec.ofNat 32 j.val)) a b = if i = j then a else b := by
  have hi := i.isLt
  have hj := j.isLt
  by_cases h : i = j
  · subst h
    simp [Scalar.select, IntOp.cmpi]
  · have hne : ¬ (BitVec.ofNat 32 i.val = BitVec.ofNat 32 j.val) := fun e => h (Fin.ext (by
      have e' := congrArg BitVec.toNat e
      simp only [BitVec.toNat_ofNat] at e'
      omega))
    rw [if_neg h]
    show (if BitVec.ofBool (BitVec.ofNat 32 i.val == BitVec.ofNat 32 j.val) = 1#1 then a else b) = b
    rw [beq_eq_false_iff_ne.2 hne]
    rfl

/-- Two clusters have two numbers. -/
theorem num_inj {i j : Fin 64} (h : num i = num j) : i = j := by
  have hi := i.isLt
  have hj := j.isLt
  have e := congrArg BitVec.toNat h
  simp only [num, BitVec.toNat_ofNat] at e
  exact Fin.ext (by omega)

/-- The indicator times a value chooses between the value and zero. -/
theorem hot_mul (w : BitVec 32) (k : Fin 64) (v : EReal) : hot w k * v = if w = num k then v else 0 := by
  unfold hot
  split
  · rw [one_mul]
  · rw [zero_mul]

/-- Of the products with a point's indicators only the one of its own cluster is left. -/
theorem sum_hot (f : Fin 64 → EReal) (k : Fin 64) : ∑ j, f j * hot (num k) j = f k := by
  rw [Finset.sum_eq_single k]
  · rw [mul_comm, hot_mul, if_pos rfl]
  · intro j _ h
    rw [mul_comm, hot_mul, if_neg fun e => h (num_inj e).symm]
  · exact fun h => absurd (Finset.mem_univ _) h

section

variable (x : Fin 160000 → Fin 256 → EReal) (w : Fin 160000 → BitVec 32)

/-- The number of points of cluster `k`. -/
def cnt (k : Fin 64) : EReal := ∑ r, if w r = num k then 1 else 0

/-- The number of points of cluster `k`, at least one. -/
def den (k : Fin 64) : EReal := max (cnt w k) 1

/-- The sum of the points of cluster `k`. -/
def tot (k : Fin 64) (d : Fin 256) : EReal := ∑ r, if w r = num k then x r d else 0

/-- The mean of cluster `k`; zero where it has no point. -/
def mean (k : Fin 64) (d : Fin 256) : EReal := Ideal.div (tot x w k d) (den w k)

/-- The squared distance of point `r` to the mean of cluster `k`. -/
def gap (r : Fin 160000) (k : Fin 64) : EReal := ∑ d, (x r d - mean x w k d) * (x r d - mean x w k d)

/-- The squared norm of the mean of cluster `k`. -/
def size (k : Fin 64) : EReal := ∑ d, mean x w k d * mean x w k d

/-- The squared distance of two means. -/
def apart (i j : Fin 64) : EReal := ∑ d, (mean x w i d - mean x w j d) * (mean x w i d - mean x w j d)

/-- The sum, over the points of cluster `k`, of the hinge values of squared distances `g`. -/
def pull (g : Fin 160000 → Fin 64 → EReal) (k : Fin 64) : EReal := ∑ r, if w r = num k then hinge (g r k) else 0

/-- The loss from the points' squared distances `g` to the means and the squared distances `a` of the means. -/
def lossOf (g : Fin 160000 → Fin 64 → EReal) (a : Fin 64 → Fin 64 → EReal) : EReal :=
  weigh (∑ k, Ideal.div (pull w g k) (den w k)) (∑ i, ∑ j, push i j (a i j)) (∑ k, normOf (size x w k))

/-- The loss. -/
def loss : EReal := lossOf x w (gap x w) (apart x w)

/-- The squared distance of a point to a mean as the kernel takes it. -/
def gap' (r : Fin 160000) (k : Fin 64) : EReal :=
  (∑ d, x r d * x r d) - (Ideal.ofBits .f32 0x40000000#32 * (∑ d, mean x w k d * x r d) - size x w k)

/-- The squared distance of two means as the kernel takes it. -/
def apart' (i j : Fin 64) : EReal :=
  size x w i + size x w j - Ideal.ofBits .f32 0x40000000#32 * ∑ d, mean x w i d * mean x w j d

end

end Cert.Loss

end
-- ==== Proof.ReferenceIdeal.Terms.lean ====
module

public import proofs.«01_k».proof.Proof.Gen.ReferenceIdeal.Run
public import proofs.«01_k».proof.Proof.ReferenceIdeal.Scatter
public import proofs.«01_k».proof.Proof.Loss

@[expose] public section

set_option maxRecDepth 16384

noncomputable section

namespace Cert.ReferenceIdeal.Hand

open Cert.ReferenceIdeal Cert.ReferenceIdeal.Gen Cert.ReferenceIdeal.Value
open Cert.Loss
open Idealize.ShloMosaic Idealize.ShloMosaic.TcCoe Idealize.SL.Sem

/-! ## The reference's result in named steps, over the features `X` and the labels `L` -/

variable (X : FVec Ideal S160000x256 .f32) (L : IVec S160000 32)

/-- The labels as segment numbers. -/
def seg : IVec S160000x1 32 := broadcastInDim S160000x1 ![0] bcast_S160000_S160000x1_0 L

/-- The number of points of each cluster. -/
def cnts : FVec Ideal S64 .f32 :=
  Host.scatterAdd scatter_S64_S160000x1_S160000_n_0_0_1 (broadcastInDim S64 ![] bcast_S_S64 (constant S_ .f32 0x00000000#32)) (seg L)
    (broadcastInDim S160000 ![] bcast_S_S160000 (constant S_ .f32 0x3F800000#32))

/-- The number of points of each cluster, at least one. -/
def den : FVec Ideal S64 .f32 := maximumf (cnts L) (broadcastInDim S64 ![] bcast_S_S64 (constant S_ .f32 0x3F800000#32))

/-- The sum of the points of each cluster. -/
def sums : FVec Ideal S64x256 .f32 :=
  Host.scatterAdd scatter_S64x256_S160000x1_S160000x256_1_0_0_1 (broadcastInDim S64x256 ![] bcast_S_S64x256 (constant S_ .f32 0x00000000#32)) (seg L) X

/-- The means. -/
def means : FVec Ideal S64x256 .f32 :=
  Host.divf (sums X L) (broadcastInDim S64x256 ![0, 1] bcast_S64x1_S64x256_0_1 (broadcastInDim S64x1 ![0] bcast_S64_S64x1_0 (den L)))

/-- The labels as row numbers of the means, a negative one counted from the end. -/
def take : IVec S160000x1 32 :=
  broadcastInDim S160000x1 ![0] bcast_S160000_S160000x1_0 (select (cmpi .slt L (broadcastInDim S160000 ![] bcast_S_S160000 (constantI S_ 32 0#32)))
    (addi L (broadcastInDim S160000 ![] bcast_S_S160000 (constantI S_ 32 64#32))) L)

/-- Each point's mean. -/
def own : FVec Ideal S160000x256 .f32 := Host.gather gather_S64x256_S160000x1_S160000x256_1_0_n_n_0_1_1256 (means X L) (take L)

/-- Each point's squared distance to its mean, from the array `G` of the points' means. -/
def gaps (G : FVec Ideal S160000x256 .f32) : FVec Ideal S160000 .f32 :=
  Host.reduceAdd (mulf (subf X G) (subf X G)) (constant S_ .f32 0x00000000#32) reducesTo_S160000x256_S160000_d1 h_S_

/-- The hinge root of squared distances. -/
def root (v : FVec Ideal S160000 .f32) : FVec Ideal S160000 .f32 :=
  maximumf (subf (Host.sqrt (maximumf v (broadcastInDim S160000 ![] bcast_S_S160000 (constant S_ .f32 0x2B8CBCCC#32))))
    (broadcastInDim S160000 ![] bcast_S_S160000 (constant S_ .f32 0x3F000000#32))) (broadcastInDim S160000 ![] bcast_S_S160000 (constant S_ .f32 0x00000000#32))

/-- The hinge values. -/
def hinges (v : FVec Ideal S160000 .f32) : FVec Ideal S160000 .f32 := mulf (root v) (root v)

/-- The clusters' hinge sums. -/
def pulls (v : FVec Ideal S160000 .f32) : FVec Ideal S64 .f32 :=
  Host.scatterAdd scatter_S64_S160000x1_S160000_n_0_0_1 (broadcastInDim S64 ![] bcast_S_S64 (constant S_ .f32 0x00000000#32)) (seg L) (hinges v)

/-- The first term. -/
def within (p n : FVec Ideal S64 .f32) : FVec Ideal S_ .f32 :=
  Host.divf (Host.reduceAdd (Host.divf p n) (constant S_ .f32 0x00000000#32) reducesTo_S64_S_d0 h_S_) (constant S_ .f32 0x42800000#32)

/-- The differences of the means in pairs. -/
def diffs (M : FVec Ideal S64x256 .f32) : FVec Ideal S64x64x256 .f32 :=
  subf (broadcastInDim S64x64x256 ![0, 1, 2] bcast_S64x1x256_S64x64x256_0_1_2 (broadcastInDim S64x1x256 ![0, 2] bcast_S64x256_S64x1x256_0_2 M))
    (broadcastInDim S64x64x256 ![0, 1, 2] bcast_S1x64x256_S64x64x256_0_1_2 (broadcastInDim S1x64x256 ![1, 2] bcast_S64x256_S1x64x256_1_2 M))

/-- The squared distances of the means in pairs. -/
def aparts (M : FVec Ideal S64x256 .f32) : FVec Ideal S64x64 .f32 :=
  Host.reduceAdd (mulf (diffs M) (diffs M)) (constant S_ .f32 0x00000000#32) reducesTo_S64x64x256_S64x64_d2 h_S_

/-- The pairs of a cluster with itself. -/
def same : IVec S64x64 1 :=
  cmpi .eq (addi (iotaInDim S64x64 32 0) (broadcastInDim S64x64 ![] bcast_S_S64x64 (constantI S_ 32 0#32))) (iotaInDim S64x64 32 1)

/-- The shortfall of the pairs' distances. -/
def short (v : FVec Ideal S64x64 .f32) : FVec Ideal S64x64 .f32 :=
  maximumf (subf (broadcastInDim S64x64 ![] bcast_S_S64x64 (constant S_ .f32 0x40400000#32))
    (Host.sqrt (select same (broadcastInDim S64x64 ![] bcast_S_S64x64 (constant S_ .f32 0x3F800000#32)) v)))
    (broadcastInDim S64x64 ![] bcast_S_S64x64 (constant S_ .f32 0x00000000#32))

/-- The pairs' penalties. -/
def pushes (v : FVec Ideal S64x64 .f32) : FVec Ideal S64x64 .f32 :=
  select same (broadcastInDim S64x64 ![] bcast_S_S64x64 (constant S_ .f32 0x00000000#32)) (mulf (short v) (short v))

/-- The second term. -/
def between (v : FVec Ideal S64x64 .f32) : FVec Ideal S_ .f32 :=
  Host.divf (Host.reduceAdd (pushes v) (constant S_ .f32 0x00000000#32) reducesTo_S64x64_S_d0_1 h_S_) (constant S_ .f32 0x457C0000#32)

/-- The squared norms of the means. -/
def sizes (M : FVec Ideal S64x256 .f32) : FVec Ideal S64 .f32 :=
  Host.reduceAdd (mulf M M) (constant S_ .f32 0x00000000#32) reducesTo_S64x256_S64_d1 h_S_

/-- The third term. -/
def lengths (v : FVec Ideal S64 .f32) : FVec Ideal S_ .f32 :=
  Host.divf (Host.reduceAdd (Host.sqrt (maximumf v (broadcastInDim S64 ![] bcast_S_S64 (constant S_ .f32 0x2B8CBCCC#32)))) (constant S_ .f32 0x00000000#32) reducesTo_S64_S_d0 h_S_)
    (constant S_ .f32 0x42800000#32)

/-- The reference's result. -/
def refLoss : FVec Ideal S_ .f32 :=
  addf (addf (mulf (constant S_ .f32 0x3DCCCCCD#32) (within (pulls L (gaps X (own X L))) (den L)))
    (mulf (constant S_ .f32 0x3F800000#32) (between (aparts (means X L)))))
    (mulf (constant S_ .f32 0x3A83126F#32) (lengths (sizes (means X L))))

/-- The composed term of the run is the named steps put together. -/
theorem res_eq (m : (ℓ : Loc nD τ sig) → Buf (Elt Ideal) ℓ) (c : Dev nD) :
    res_main_v69 m c = refLoss (m ((c.tc : Thread nD τ).loc main_arg0)) (m ((c.tc : Thread nD τ).loc main_arg1)) := by
  unfold res_main_v69
  rfl

/-! ## The steps at an index -/

/-- A segment number is the label. -/
theorem seg_at (r : Fin 160000) : seg L (ix2 r 0) = L (ix1 r) := by
  pointwise [seg]

/-- A row number is the label, or the label plus 64 where it is negative. -/
theorem take_at (r : Fin 160000) :
    take L (ix2 r 0) = Scalar.select (IntOp.cmpi CmpIPredicate.slt (L (ix1 r)) 0#32) (IntOp.addi (L (ix1 r)) 64#32) (L (ix1 r)) := by
  pointwise [take]

/-- The sums start at zero. -/
theorem zeros2_at (k : Fin 64) (d : Fin 256) :
    broadcastInDim S64x256 ![] bcast_S_S64x256 (constant (F := Ideal) S_ .f32 0x00000000#32) (ix2 k d) = 0 := by
  pointwise

/-- The counts start at zero. -/
theorem zeros1_at (k : Fin 64) :
    broadcastInDim S64 ![] bcast_S_S64 (constant (F := Ideal) S_ .f32 0x00000000#32) (ix1 k) = 0 := by
  pointwise

/-- Each point counts as one. -/
theorem ones_at (r : Fin 160000) :
    broadcastInDim S160000 ![] bcast_S_S160000 (constant (F := Ideal) S_ .f32 0x3F800000#32) (ix1 r) = 1 := by
  pointwise

/-- A cluster's count adds one for each of its points. -/
theorem cnts_at (k : Fin 64) : cnts L (ix1 k) = ∑ r : Fin 160000, if (L (ix1 r)).toInt = (k.val : Int) then (1 : EReal) else 0 := by
  unfold cnts
  rw [segment1, zeros1_at, zero_add]
  exact Finset.sum_congr rfl fun r _ => by rw [seg_at, ones_at]

/-- A count is raised to one at least. -/
theorem den_at (k : Fin 64) : den L (ix1 k) = max (cnts L (ix1 k)) 1 := by
  pointwise [den]

/-- A cluster's sum adds the rows of its points. -/
theorem sums_at (k : Fin 64) (d : Fin 256) :
    sums X L (ix2 k d) = ∑ r : Fin 160000, if (L (ix1 r)).toInt = (k.val : Int) then X (ix2 r d) else 0 := by
  unfold sums
  rw [segment2, zeros2_at, zero_add]
  exact Finset.sum_congr rfl fun r _ => by rw [seg_at]

/-- A mean is the sum divided by the count. -/
theorem means_at (k : Fin 64) (d : Fin 256) : means X L (ix2 k d) = Ideal.div (sums X L (ix2 k d)) (den L (ix1 k)) := by
  pointwise [means]

/-- A cluster's hinge sum adds the hinge values of its points. -/
theorem pulls_at (v : FVec Ideal S160000 .f32) (k : Fin 64) :
    pulls L v (ix1 k) = ∑ r : Fin 160000, if (L (ix1 r)).toInt = (k.val : Int) then hinges v (ix1 r) else 0 := by
  unfold pulls
  rw [segment1, zeros1_at, zero_add]
  exact Finset.sum_congr rfl fun r _ => by rw [seg_at]

/-- A squared distance adds the squared differences of the coordinates. -/
theorem gaps_at (G : FVec Ideal S160000x256 .f32) (r : Fin 160000) :
    gaps X G (ix1 r) = ∑ d : Fin 256, (X (ix2 r d) - G (ix2 r d)) * (X (ix2 r d) - G (ix2 r d)) := by
  pointwise [gaps]

/-- A hinge value from the squared distance. -/
theorem hinges_at (v : FVec Ideal S160000 .f32) (r : Fin 160000) : hinges v (ix1 r) = hinge (v (ix1 r)) := by
  pointwise [hinges, root, hinge]

/-- The squared distance of two means adds the squared differences of the coordinates. -/
theorem aparts_at (M : FVec Ideal S64x256 .f32) (i j : Fin 64) :
    aparts M (ix2 i j) = ∑ d : Fin 256, (M (ix2 i d) - M (ix2 j d)) * (M (ix2 i d) - M (ix2 j d)) := by
  pointwise [aparts, diffs]

/-- The squared norm of a mean adds the squared coordinates. -/
theorem sizes_at (M : FVec Ideal S64x256 .f32) (k : Fin 64) : sizes M (ix1 k) = ∑ d : Fin 256, M (ix2 k d) * M (ix2 k d) := by
  pointwise [sizes]

/-- The first term is the average over the clusters of their hinge sums divided by their counts. -/
theorem within_at (p n : FVec Ideal S64 .f32) (i : S_.Idx) :
    within p n i = Ideal.div (∑ k : Fin 64, Ideal.div (p (ix1 k)) (n (ix1 k))) (Ideal.ofBits .f32 0x42800000#32) := by
  pointwise [within]

/-- The second term is the average penalty of two different clusters. -/
theorem between_at (v : FVec Ideal S64x64 .f32) (o : S_.Idx) :
    between v o = Ideal.div (∑ i : Fin 64, ∑ j : Fin 64, push i j (v (ix2 i j))) (Ideal.ofBits .f32 0x457C0000#32) := by
  pointwise [between, pushes, short, same]
  refine congrArg (Ideal.div · _) (Finset.sum_congr rfl fun i _ => Finset.sum_congr rfl fun j _ => ?_)
  have e : IntOp.addi (BitVec.ofNat 32 i.val) 0#32 = BitVec.ofNat 32 i.val := BitVec.add_zero _
  rw [e, select_eq, select_eq]
  unfold push
  by_cases h : i = j
  · rw [if_pos h, if_pos h]
  · rw [if_neg h, if_neg h, if_neg h]

/-- The third term is the average norm of the means. -/
theorem lengths_at (v : FVec Ideal S64 .f32) (i : S_.Idx) :
    lengths v i = Ideal.div (∑ k : Fin 64, normOf (v (ix1 k))) (Ideal.ofBits .f32 0x42800000#32) := by
  pointwise [lengths, normOf]

/-- The weighted sum of the three terms. -/
theorem combine_at (a b c : FVec Ideal S_ .f32) (i : S_.Idx) :
    (addf (addf (mulf (constant S_ .f32 0x3DCCCCCD#32) a) (mulf (constant S_ .f32 0x3F800000#32) b)) (mulf (constant S_ .f32 0x3A83126F#32) c) : FVec Ideal S_ .f32) i
      = Ideal.ofBits .f32 0x3DCCCCCD#32 * a i + b i + Ideal.ofBits .f32 0x3A83126F#32 * c i := by
  pointwise

/-- The reference's result from its steps. -/
theorem refLoss_at (i : S_.Idx) :
    refLoss X L i = weigh (∑ k : Fin 64, Ideal.div (pulls L (gaps X (own X L)) (ix1 k)) (den L (ix1 k)))
      (∑ i : Fin 64, ∑ j : Fin 64, push i j (aparts (means X L) (ix2 i j))) (∑ k : Fin 64, normOf (sizes (means X L) (ix1 k))) := by
  unfold refLoss weigh
  rw [combine_at, within_at, between_at, lengths_at]

end Cert.ReferenceIdeal.Hand

end
-- ==== Proof.ReferenceIdeal.Value.lean ====
module

public import proofs.«01_k».proof.Proof.ReferenceIdeal.Terms
public import Idealize.ShloMosaic.Lib.Routing.Ops
public import Idealize.ShloMosaic.Lib.StableHlo.Predicate

@[expose] public section

set_option maxRecDepth 16384

noncomputable section

namespace Cert.ReferenceIdeal.Hand

open Cert.ReferenceIdeal Cert.ReferenceIdeal.Gen Cert.ReferenceIdeal.Value
open Cert.Loss
open Idealize.ShloMosaic Idealize.ShloMosaic.TcCoe Idealize.SL.Sem

/-! ## What the reference computes -/

variable (X : FVec Ideal S160000x256 .f32) (L : IVec S160000 32)

/-- The points the feature array holds. -/
def feats (r : Fin 160000) (d : Fin 256) : EReal := X (ix2 r d)

/-- The label words the label array holds. -/
def labs (r : Fin 160000) : BitVec 32 := L (ix1 r)

/-- A cluster number's word read signed is the number. -/
theorem toInt_num (n : Fin 64) : (num n).toInt = (n.val : Int) :=
  StableHlo.Predicate.toInt_ofNat_small _ (by have := n.isLt; omega)

/-- A choice on a label read signed being a cluster number is the choice on the words. -/
theorem hit (r : Fin 160000) (k : Fin 64) (a b : EReal) :
    (if (L (ix1 r)).toInt = (k.val : Int) then a else b) = if labs L r = num k then a else b :=
  if_congr ⟨fun h => BitVec.eq_of_toInt_eq (h.trans (toInt_num k).symm), fun h => (congrArg BitVec.toInt h).trans (toInt_num k)⟩ rfl rfl

/-- The clusters' counts. -/
theorem cnts_eq (k : Fin 64) : cnts L (ix1 k) = cnt (labs L) k :=
  (cnts_at L k).trans (Finset.sum_congr rfl fun r _ => hit L r k 1 0)

/-- The number a cluster's sum is divided by. -/
theorem den_eq (k : Fin 64) : Hand.den L (ix1 k) = Loss.den (labs L) k := by
  rw [den_at, cnts_eq]
  rfl

/-- The clusters' sums. -/
theorem sums_eq (k : Fin 64) (d : Fin 256) : sums X L (ix2 k d) = tot (feats X) (labs L) k d :=
  (sums_at X L k d).trans (Finset.sum_congr rfl fun r _ => hit L r k _ 0)

/-- The means. -/
theorem means_eq (k : Fin 64) (d : Fin 256) : means X L (ix2 k d) = mean (feats X) (labs L) k d := by
  rw [means_at, den_eq, sums_eq]
  rfl

/-- The label of a cluster is not counted from the end. -/
theorem take_eq (r : Fin 160000) (k : Fin 64) (h : labs L r = num k) : take L (ix2 r 0) = num k := by
  have h' : L (ix1 r) = num k := h
  rw [take_at, h']
  have e : IntOp.cmpi CmpIPredicate.slt (num k) 0#32 = 0#1 := by
    show BitVec.ofBool (BitVec.slt _ _) = 0#1
    rw [BitVec.slt, toInt_num]
    have : ¬ ((k.val : Int) < (0#32 : BitVec 32).toInt) := by
      show ¬ ((k.val : Int) < 0)
      omega
    rw [decide_eq_false this]
    rfl
  rw [e]
  rfl

/-- The mean gathered for a point of cluster `k`. -/
theorem own_eq (r : Fin 160000) (k : Fin 64) (h : labs L r = num k) (d : Fin 256) : own X L (ix2 r d) = mean (feats X) (labs L) k d := by
  unfold own
  rw [← means_eq]
  exact Routing.gather_row gather_S64x256_S160000x1_S160000x256_1_0_n_n_0_1_1256 rfl rfl rfl rfl rfl _ _ r d k (take_eq L r k h) (by decide)

/-- The squared distance of a point of cluster `k` to its mean. -/
theorem gap_eq (r : Fin 160000) (k : Fin 64) (h : labs L r = num k) : gaps X (own X L) (ix1 r) = gap (feats X) (labs L) r k := by
  rw [gaps_at]
  exact Finset.sum_congr rfl fun d _ => by rw [own_eq X L r k h]; rfl

/-- The clusters' hinge sums. -/
theorem pull_eq (k : Fin 64) : pulls L (gaps X (own X L)) (ix1 k) = pull (labs L) (gap (feats X) (labs L)) k := by
  rw [pulls_at]
  refine Finset.sum_congr rfl fun r _ => (hit L r k _ 0).trans ?_
  by_cases h : labs L r = num k
  · rw [if_pos h, if_pos h, hinges_at, gap_eq X L r k h]
  · rw [if_neg h, if_neg h]

/-- The squared distances of the means. -/
theorem apart_eq (i j : Fin 64) : aparts (means X L) (ix2 i j) = apart (feats X) (labs L) i j := by
  rw [aparts_at]
  exact Finset.sum_congr rfl fun d _ => by rw [means_eq, means_eq]

/-- The squared norms of the means. -/
theorem size_eq (k : Fin 64) : sizes (means X L) (ix1 k) = size (feats X) (labs L) k := by
  rw [sizes_at]
  exact Finset.sum_congr rfl fun d _ => by rw [means_eq]

/-- The reference's result is the loss. -/
theorem refLoss_eq : refLoss X L = fun _ => loss (feats X) (labs L) := by
  funext i
  rw [refLoss_at]
  unfold loss lossOf
  rw [Finset.sum_congr rfl fun k _ => by rw [pull_eq, den_eq],
    Finset.sum_congr rfl fun i _ => Finset.sum_congr rfl fun j _ => congrArg (push i j) (apart_eq X L i j),
    Finset.sum_congr rfl fun k _ => congrArg normOf (size_eq X L k)]

/-- For any floats the reference runs, leaves its arguments as they were, and ends with every counter at zero. -/
theorem frame_quiescent {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (run m g)

end Cert.ReferenceIdeal.Hand

end
-- ==== Proof.ReferenceFrame.lean ====
module

public import proofs.«01_k».proof.Defs
public import proofs.«01_k».proof.Proof.ReferenceIdeal.Value
public import proofs.«01_k».proof.Proof.Gen.Reference

@[expose] public section

noncomputable section

namespace Cert.Reference.Hand

open Idealize.ShloMosaic Idealize.SL.Sem

/-! ## The reference's frame, from its ideal reading's: the two programs are one text -/

/-- The two programs' tables are one table: neither has a call. -/
theorem defs_eq : Cert.Reference.defs (F := Bits) = Cert.ReferenceIdeal.defs :=
  congrArg (Pipeline.defs Cert.Reference.pcfgs) (congrArg Defs.onTc (funext fun l => l.elim0))

/-- The reference ends with its arguments unchanged and every counter zero. -/
theorem frame : Cert.quiescent_Reference (hReference := Cert.Reference.Gen.facts) := fun m g _ => by
  rw [defs_eq]
  exact Cert.ReferenceIdeal.Hand.frame_quiescent (F := Bits) m g

end Cert.Reference.Hand

end
-- ==== Proof.KernelIdeal.Blocks.lean ====
module

public import proofs.«01_k».proof.Proof.KernelIdeal.State
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

/-! ## What the blocks of the two operands hold -/

/-- Row `r` of block `n`, as a row of the whole array. -/
def row (n : Fin 20) (r : Fin 8000) : Fin 160000 := ⟨n.val * 8000 + r.val, by have := n.isLt; have := r.isLt; omega⟩

/-- The feature block of a grid point: its own in pass 0, the last one in pass 1. -/
theorem idx0 : ∀ t : Fin cfg0.N, win0_0.index t = ![if t.val < 20 then t.val else 19, 0] := (by decide +kernel : ∀ t : Fin grid0.N, _)
/-- The label block of a grid point: its own in both passes. -/
theorem idx1 : ∀ t : Fin cfg0.N, win0_1.index t = ![t.val % 20, 0, 0] := (by decide +kernel : ∀ t : Fin grid0.N, _)

/-- Pass 0 reads block `n` of the features. -/
theorem fblk_at (c : Dev nD) (n : Fin 20) (r : Fin 8000) (d : Fin 256) :
    fblk m c n.val (ix2 r d) = m ((c.tc : Thread nD τ).loc main_arg0) (ix2 (row n r) d) := by
  have hn : (pt n.val).val = n.val := Nat.mod_eq_of_lt (by have := n.isLt; omega)
  have h20 := n.isLt
  unfold fblk
  blk_ext [iblk, V, idx0 (pt n.val), hn, if_pos h20, row]

/-- The kernel's label operand is the label array in another shape. -/
theorem V_labels (c : Dev nD) :
    V m c main_v0 = (shapeCast S20x1x8000 (m ((c.tc : Thread nD τ).loc main_arg1) : IVec S160000 32) shapeCasts_S160000_S20x1x8000 : IVec S20x1x8000 32) := by
  show StableHlo.after hostOps0 (fun b => m (c, b)) (Proc.devRef .tc main_v0) = _
  unfold hostOps0
  after_results
  rfl

/-- Reading the label operand at block `n`. -/
theorem labels_at (v : IVec S160000 32) (n : Fin 20) (r : Fin 8000) :
    shapeCast S20x1x8000 v shapeCasts_S160000_S20x1x8000 (ix3 n 0 r) = v (ix1 (row n r)) := by
  pointwise
  rfl

/-- Both passes read block `n` of the labels. -/
theorem lblk_at (c : Dev nD) (k : ℕ) (hk : k < 40) (n : Fin 20) (h : k % 20 = n.val) (r : Fin 8000) :
    lblk m c k (ix3 0 0 r) = m ((c.tc : Thread nD τ).loc main_arg1) (ix1 (row n r)) := by
  have hn : (pt k).val = k := Nat.mod_eq_of_lt hk
  have h20 := n.isLt
  have e : ((cfg0.win 1).blk (pt k)).view.emb (ix3 0 0 r) = ix3 (n : Fin 20) (0 : Fin 1) (r : Fin 8000) := by
    blk_ext [idx1 (pt k), hn, h]
  show V m c main_v0 (((cfg0.win 1).blk (pt k)).view.emb (ix3 0 0 r)) = _
  rw [V_labels, e]
  exact labels_at _ n r

end Cert.KernelIdeal.Hand

end
-- ==== Proof.KernelIdeal.Pay.lean ====
module

public import proofs.«01_k».proof.Proof.Gen.KernelIdeal.Skeleton
public import proofs.«01_k».proof.Proof.Loss

@[expose] public section

set_option maxRecDepth 16384

noncomputable section

namespace Cert.KernelIdeal.Hand

open Cert.KernelIdeal Cert.KernelIdeal.Gen
open Cert.Loss
open Idealize.ShloMosaic Idealize.ShloMosaic.TcCoe Idealize.SL.Sem

/-! ## What each block computation is over the reals, at an index -/

/-- A comparison bit widened and turned into a float is one where the comparison holds, zero elsewhere. -/
theorem sitofp_eq (a b : BitVec 32) :
    FloatOps.sitofp (F := Ideal) FTy.f32 (BitVec.setWidth 32 (IntOp.cmpi CmpIPredicate.eq a b)) = (if a = b then (1 : EReal) else 0) := by
  by_cases h : a = b
  · subst h
    have e : BitVec.setWidth 32 (IntOp.cmpi CmpIPredicate.eq a a) = 1#32 := by simp [IntOp.cmpi]
    rw [e, if_pos rfl]
    show (((1#32 : BitVec 32).toInt : ℝ) : EReal) = 1
    simp
  · have e : BitVec.setWidth 32 (IntOp.cmpi CmpIPredicate.eq a b) = 0#32 := by
      show BitVec.setWidth 32 (BitVec.ofBool (a == b)) = 0#32
      rw [beq_eq_false_iff_ne.2 h]; rfl
    rw [e, if_neg h]
    show (((0#32 : BitVec 32).toInt : ℝ) : EReal) = 0
    simp

/-- The one-hot block: row `k`, column `r` is one where row `r` of the block has label `k`. -/
theorem pay1_at (l : Vec Ideal S1x1x8000 .i32) (k : Fin 64) (r : Fin 8000) :
    k0_pay1 (F := Ideal) l (ix2 k r) = hot (l (ix3 0 0 r)) k := by
  pointwise [k0_pay1]
  exact sitofp_eq _ _

/-- A block of pass 0 adds, for each cluster, the feature rows of its points. -/
theorem pay7_at (l : Vec Ideal S1x1x8000 .i32) (x : FVec Ideal S8000x256 .f32) (a : FVec Ideal S64x256 .f32) (k : Fin 64) (d : Fin 256) :
    k0_pay7 (F := Ideal) l x a (ix2 k d) = a (ix2 k d) + ∑ r : Fin 8000, hot (l (ix3 0 0 r)) k * x (ix2 r d) := by
  simp only [← pay1_at]
  pointwise [k0_pay7, k0_pay2, k0_pay6]

/-- A block of pass 0 adds, for each cluster, the number of its points. -/
theorem pay8_at (l : Vec Ideal S1x1x8000 .i32) (a : FVec Ideal S64x1 .f32) (k : Fin 64) :
    k0_pay8 (F := Ideal) l a (ix2 k 0) = a (ix2 k 0) + ∑ r : Fin 8000, hot (l (ix3 0 0 r)) k := by
  simp only [← pay1_at]
  pointwise [k0_pay8, k0_pay2]

/-- The squared norm of each row of the block. -/
theorem pay9_at (x : FVec Ideal S8000x256 .f32) (r : Fin 8000) :
    k0_pay9 (F := Ideal) x (ix2 0 r) = ∑ d : Fin 256, x (ix2 r d) * x (ix2 r d) := by
  pointwise [k0_pay9, k0_pay6]

/-- The cached block is the block. -/
theorem pay10_at (x : FVec Ideal S8000x256 .f32) (r : Fin 8000) (d : Fin 256) :
    k0_pay10 (F := Ideal) x (ix2 r d) = x (ix2 r d) := by
  pointwise [k0_pay10, k0_pay6]

/-- The cluster means. -/
theorem pay12_at (s : FVec Ideal S64x256 .f32) (n : FVec Ideal S64x1 .f32) (k : Fin 64) (d : Fin 256) :
    k0_pay12 (F := Ideal) s n (ix2 k d) = Ideal.div (s (ix2 k d)) (max (n (ix2 k 0)) 1) := by
  pointwise [k0_pay12, k0_pay11]

/-- The squared norms of the cluster means. -/
theorem pay13_at (s : FVec Ideal S64x256 .f32) (n : FVec Ideal S64x1 .f32) (k : Fin 64) :
    k0_pay13 (F := Ideal) s n (ix2 k 0)
      = ∑ d : Fin 256, Ideal.div (s (ix2 k d)) (max (n (ix2 k 0)) 1) * Ideal.div (s (ix2 k d)) (max (n (ix2 k 0)) 1) := by
  pointwise [k0_pay13, k0_pay11]

/-- A block of pass 1 adds, for each cluster, the hinge values of its points. -/
theorem pay14_at (l : Vec Ideal S1x1x8000 .i32) (x : FVec Ideal S8000x256 .fp8e4m3) (mn : FVec Ideal S64x256 .fp8e4m3) (nm : FVec Ideal S64x1 .f32)
    (q : FVec Ideal S1x8000 .f32) (a : FVec Ideal S64x1 .f32) (k : Fin 64) :
    k0_pay14 (F := Ideal) l x mn nm q a (ix2 k 0) = a (ix2 k 0) + ∑ r : Fin 8000, hot (l (ix3 0 0 r)) k
      * hinge (q (ix2 0 r) - ∑ k' : Fin 64, (Ideal.ofBits .f32 0x40000000#32 * (∑ d : Fin 256, mn (ix2 k' d) * x (ix2 r d)) - nm (ix2 k' 0)) * hot (l (ix3 0 0 r)) k') := by
  simp only [← pay1_at, hinge]
  pointwise [k0_pay14]

/-- The mean over clusters of the mean hinge value. -/
theorem pay17_at (n : FVec Ideal S64x1 .f32) (h : FVec Ideal S64x1 .f32) :
    k0_pay17 (F := Ideal) n h = Ideal.div (∑ k : Fin 64, Ideal.div (h (ix2 k 0)) (max (n (ix2 k 0)) 1)) (Ideal.ofBits .f32 0x42800000#32) := by
  pointwise [k0_pay17, k0_pay16]
  simp only [Finset.univ_unique, Finset.sum_singleton]

/-- The sum over pairs of clusters of the squared shortfall of their distance. -/
theorem pay18_at (n : FVec Ideal S64x1 .f32) (s : FVec Ideal S64x256 .f32) (nm : FVec Ideal S64x1 .f32) :
    k0_pay18 (F := Ideal) n s nm (ix3 0 0 0) = ∑ i : Fin 64, ∑ j : Fin 64, push i j (nm (ix2 i 0)
      + (∑ d : Fin 256, Ideal.div (s (ix2 j d)) (max (n (ix2 j 0)) 1) * Ideal.div (s (ix2 j d)) (max (n (ix2 j 0)) 1))
      - Ideal.ofBits .f32 0x40000000#32 * ∑ d : Fin 256, Ideal.div (s (ix2 i d)) (max (n (ix2 i 0)) 1) * Ideal.div (s (ix2 j d)) (max (n (ix2 j 0)) 1)) := by
  pointwise [k0_pay18, k0_pay16]
  refine Finset.sum_congr rfl fun i _ => Finset.sum_congr rfl fun j _ => ?_
  rw [select_eq, select_eq]
  unfold push
  by_cases h : i = j
  · rw [if_pos h, if_pos h]
  · rw [if_neg h, if_neg h, if_neg h]

/-- The loss from its three terms. -/
theorem pay15_at (h : FVec Ideal S64x1 .f32) (n : FVec Ideal S64x1 .f32) (w : FVec Ideal S1x1x1 .f32) (nm : FVec Ideal S64x1 .f32) :
    k0_pay15 (F := Ideal) (k0_pay17 (F := Ideal) n h) w nm (ix2 0 0)
      = weigh (∑ k : Fin 64, Ideal.div (h (ix2 k 0)) (max (n (ix2 k 0)) 1)) (w (ix3 0 0 0)) (∑ k : Fin 64, normOf (nm (ix2 k 0))) := by
  rw [pay17_at]
  pointwise [k0_pay15, weigh, normOf]
  simp only [Finset.univ_unique, Finset.sum_singleton]

/-- The sums start at zero. -/
theorem pay3_at (k : Fin 64) (d : Fin 256) : k0_pay3 (F := Ideal) (ix2 k d) = 0 := by
  pointwise [k0_pay3]

/-- The counts start at zero. -/
theorem pay4_at (k : Fin 64) : k0_pay4 (F := Ideal) (ix2 k 0) = 0 := by
  pointwise [k0_pay4]

/-- The hinge sums start at zero. -/
theorem pay5_at (k : Fin 64) : k0_pay5 (F := Ideal) (ix2 k 0) = 0 := by
  pointwise [k0_pay5]

/-- The one entry of a result, read as a scalar. -/
theorem scalar_at (v : FVec Ideal S1x1 .f32) (i : S_.Idx) : shapeCast S_ v shapeCasts_S1x1_S_ i = v (ix2 0 0) := by
  pointwise

end Cert.KernelIdeal.Hand

end
-- ==== Proof.KernelIdeal.Result.lean ====
module

public import proofs.«01_k».proof.Proof.KernelIdeal.Launch
public import Idealize.ShloMosaic.Lib.Pipeline.ValueKit.Geometry
public import Idealize.ShloMosaic.Lib.StableHlo.Run

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The result -/

/-- The one index of a one by one array. -/
instance : Subsingleton S1x1.Idx := ⟨fun x y => funext fun a => by
  have h : ∀ a : Fin 2, S1x1.size a = 1 := by decide
  have hx := (x a).isLt; have hy := (y a).isLt
  apply Fin.ext; have := h a; omega⟩

/-- The output array ends holding the loss. -/
theorem loss_array (c : Dev nD) : (dats m 0 c).arrAt 2 cfg0.N = lossV m c := by
  refine (dats m 0 c).arrAt_eq_of_covers 2 _ (by decide +kernel) fun t hf y => ?_
  rw [after_2]
  exact congrArg (lossV m c) (Subsingleton.elim (α := S1x1.Idx) _ _)

/-- The result: the loss, as a scalar. -/
def result (c : Dev nD) : Vec F S_ .f32 := shapeCast S_ (lossV m c) shapeCasts_S1x1_S_

/-- The result buffer after the reshape that follows the region. -/
theorem result_eq (c : Dev nD) :
    Pipeline.afterTail₀ cfgs (dats m) 0 (V0 m) [hostOps1] c main_v2 = result m c := by
  unfold Pipeline.afterTail₀ result
  simp only [hostOps1, List.flatten_cons, List.flatten_nil, List.append_nil]
  after_results
  have e := (Pipeline.withArrays_arr spec0 launch0.win.arr_inj c (V0 m c) (fun w => (dats m 0 c).arrAt w (cfgs 0).N) 2).trans (loss_array m c)
  exact congrArg (fun x : Vec F S1x1 .f32 => shapeCast S_ x shapeCasts_S1x1_S_) e

/-- The program's result and its arguments at the end. -/
theorem run_value : θ_run defs (onTc (τ := τ) (main (F := F))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).2 main_v2 (Pipeline.mem_restRefs_of main_v2 (by decide) (by decide))).trans (result_eq m c), h.2 c⟩)
    (θ_run_and (run_main m ρ) (frame_of m ρ (dats m) (A_eq m) (run_main m ρ)))

end Cert.KernelIdeal.Hand

end
-- ==== Proof.Expand.lean ====
module

public import proofs.«01_k».proof.Proof.Loss

@[expose] public section

noncomputable section

namespace Cert.Loss

open Idealize.ShloMosaic

/-! ## The kernel's squared distances give the same loss

Where all points that belong to a cluster are real, the kernel's squared distances are the squared distances. Where one
of them has an infinite coordinate, both losses are plus infinity. -/

/-- A real sum, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The pattern `0x40000000` is two. -/
theorem two_word : Ideal.ofBits .f32 0x40000000#32 = ((2 : ℝ) : EReal) := by
  simp [Ideal.ofBits, Ideal.ieee, -EReal.coe_mul]; norm_num

/-- The pattern `0x3F000000` is one half. -/
theorem half_word : Ideal.ofBits .f32 0x3F000000#32 = ((1 / 2 : ℝ) : EReal) := by
  simp [Ideal.ofBits, Ideal.ieee, -EReal.coe_mul]; norm_num

/-- The pattern `0x42800000` is 64. -/
theorem word_64 : Ideal.ofBits .f32 0x42800000#32 = ((64 : ℝ) : EReal) := by
  simp [Ideal.ofBits, Ideal.ieee, -EReal.coe_mul]; norm_num

/-- The pattern `0x457C0000` is 4032. -/
theorem word_4032 : Ideal.ofBits .f32 0x457C0000#32 = ((4032 : ℝ) : EReal) := by
  simp [Ideal.ofBits, Ideal.ieee, -EReal.coe_mul]; norm_num

/-- The first weight is positive. -/
theorem alpha_word : (0 : EReal) < Ideal.ofBits .f32 0x3DCCCCCD#32 := by
  simp [Ideal.ofBits, Ideal.ieee, -EReal.coe_mul]

/-- The last weight is not negative. -/
theorem gamma_word : (0 : EReal) ≤ Ideal.ofBits .f32 0x3A83126F#32 := by
  simp [Ideal.ofBits, Ideal.ieee, -EReal.coe_mul]

/-- The floor under a root is not negative. -/
theorem floor_word : (0 : EReal) ≤ Ideal.ofBits .f32 0x2B8CBCCC#32 := by
  simp [Ideal.ofBits, Ideal.ieee, -EReal.coe_mul]

/-! ## Real points -/

/-- For reals, the expanded squared distance of a point to a mean. -/
theorem expand_point (a b : Fin 256 → ℝ) :
    (∑ d, (a d : EReal) * a d) - (Ideal.ofBits .f32 0x40000000#32 * (∑ d, (b d : EReal) * a d) - ∑ d, (b d : EReal) * b d)
      = ∑ d, ((a d : EReal) - b d) * (a d - b d) := by
  rw [two_word]
  simp only [← EReal.coe_mul, ← EReal.coe_sub, ← coe_sum]
  refine congrArg Real.toEReal ?_
  rw [Finset.mul_sum, ← Finset.sum_sub_distrib, ← Finset.sum_sub_distrib]
  exact Finset.sum_congr rfl fun d _ => by ring

/-- For reals, the expanded squared distance of two means. -/
theorem expand_pair (a b : Fin 256 → ℝ) :
    (∑ d, (a d : EReal) * a d) + (∑ d, (b d : EReal) * b d) - Ideal.ofBits .f32 0x40000000#32 * (∑ d, (a d : EReal) * b d)
      = ∑ d, ((a d : EReal) - b d) * (a d - b d) := by
  rw [two_word]
  simp only [← EReal.coe_mul, ← EReal.coe_sub, ← EReal.coe_add, ← coe_sum]
  refine congrArg Real.toEReal ?_
  rw [Finset.mul_sum, ← Finset.sum_add_distrib, ← Finset.sum_sub_distrib]
  exact Finset.sum_congr rfl fun d _ => by ring

/-- A sum of reals is real. -/
theorem sum_real {ι : Type*} (s : Finset ι) (f : ι → EReal) (h : ∀ i, ∃ a : ℝ, f i = a) : ∃ a : ℝ, ∑ i ∈ s, f i = a := by
  choose g hg using h
  exact ⟨∑ i ∈ s, g i, by rw [coe_sum]; exact Finset.sum_congr rfl fun i _ => hg i⟩

section

variable (x : Fin 160000 → Fin 256 → EReal) (w : Fin 160000 → BitVec 32)

/-- What a cluster's sum is divided by is a positive real. -/
theorem den_real (k : Fin 64) : ∃ a : ℝ, 0 < a ∧ den w k = a := by
  obtain ⟨a, h⟩ := sum_real Finset.univ (fun r => if w r = num k then (1 : EReal) else 0) fun r => by
    split
    · exact ⟨1, rfl⟩
    · exact ⟨0, rfl⟩
  refine ⟨max a 1, lt_of_lt_of_le one_pos (le_max_right _ _), ?_⟩
  unfold den cnt
  rw [h]
  exact (EReal.coe_strictMono.monotone.map_max (a := a) (b := 1)).symm

/-- A quotient by a positive real is a product with a positive real. -/
theorem div_den (k : Fin 64) : ∃ a : ℝ, 0 < a ∧ ∀ v, Ideal.div v (den w k) = v * a := by
  obtain ⟨a, h, e⟩ := den_real w k
  exact ⟨1 / a, by positivity, fun v => by rw [e, Ideal.div_coe h.ne']⟩

/-- Every point of a cluster is real. -/
def AllReal : Prop := ∀ r k, w r = num k → ∀ d, ∃ a : ℝ, x r d = a

variable {x w}

/-- The means of real points are real. -/
theorem AllReal.mean (H : AllReal x w) (k : Fin 64) (d : Fin 256) : ∃ a : ℝ, mean x w k d = a := by
  obtain ⟨a, -, e⟩ := div_den w k
  obtain ⟨b, h⟩ := sum_real Finset.univ (fun r => if w r = num k then x r d else 0) fun r => by
    split
    · next h => exact H r k h d
    · exact ⟨0, rfl⟩
  refine ⟨b * a, ?_⟩
  unfold Loss.mean tot
  rw [e, h, EReal.coe_mul]

/-- The kernel's squared distance of a real point to the mean of its cluster. -/
theorem AllReal.gap (H : AllReal x w) (r : Fin 160000) (k : Fin 64) (h : w r = num k) : gap' x w r k = gap x w r k := by
  choose a ha using H r k h
  choose b hb using H.mean k
  unfold gap' Loss.gap size
  simp only [ha, hb]
  exact expand_point a b

/-- The kernel's squared distance of two means of real points. -/
theorem AllReal.apart (H : AllReal x w) (i j : Fin 64) : apart' x w i j = apart x w i j := by
  choose a ha using H.mean i
  choose b hb using H.mean j
  unfold apart' Loss.apart size
  simp only [ha, hb]
  exact expand_pair a b

/-- For real points the kernel's squared distances give the loss. -/
theorem AllReal.loss (H : AllReal x w) : lossOf x w (gap' x w) (apart' x w) = loss x w := by
  have e : ∀ k, pull w (gap' x w) k = pull w (Loss.gap x w) k := fun k => by
    unfold pull
    refine Finset.sum_congr rfl fun r _ => ?_
    split
    · next h => rw [H.gap r k h]
    · rfl
  have e' : apart' x w = Loss.apart x w := funext fun i => funext fun j => H.apart i j
  unfold Loss.loss lossOf
  simp only [e, e']

end

/-! ## A point with an infinite coordinate -/

/-- Plus or minus infinity. -/
def Inf (v : EReal) : Prop := v = ⊤ ∨ v = ⊥

/-- What is not real is infinite. -/
theorem inf_of (v : EReal) (h : ¬ ∃ a : ℝ, v = a) : Inf v := by
  induction v with
  | bot => exact .inr rfl
  | top => exact .inl rfl
  | coe a => exact absurd ⟨a, rfl⟩ h

/-- A sum with an infinite term is infinite. -/
theorem Inf.add {v : EReal} (h : Inf v) (u : EReal) : Inf (v + u) := by
  rcases h with rfl | rfl
  · by_cases e : u = ⊥
    · exact .inr (by rw [e, EReal.add_bot])
    · exact .inl (EReal.top_add_of_ne_bot e)
  · exact .inr (EReal.bot_add u)

/-- A sum with an infinite term is infinite, for many terms. -/
theorem Inf.sum {ι : Type*} [Fintype ι] {f : ι → EReal} {i : ι} (h : Inf (f i)) : Inf (∑ j, f j) := by
  classical
  rw [← Finset.add_sum_erase _ _ (Finset.mem_univ i)]
  exact h.add _

/-- An infinite value times a positive real is infinite. -/
theorem Inf.mul {v : EReal} (h : Inf v) {a : ℝ} (ha : 0 < a) : Inf (v * a) := by
  rcases h with rfl | rfl
  · exact .inl (EReal.top_mul_coe_of_pos ha)
  · exact .inr (EReal.bot_mul_coe_of_pos ha)

/-- The square of an infinite value is plus infinity. -/
theorem Inf.sq {v : EReal} (h : Inf v) : v * v = ⊤ := by
  rcases h with rfl | rfl <;> rfl

/-- A square is not negative. -/
theorem sq_nonneg (v : EReal) : 0 ≤ v * v := by
  induction v with
  | bot => exact le_top
  | top => exact le_top
  | coe a => exact_mod_cast mul_self_nonneg a

/-- A sum of terms that are not negative, one of them plus infinity, is plus infinity. -/
theorem sum_top {ι : Type*} [Fintype ι] {f : ι → EReal} (h0 : ∀ j, 0 ≤ f j) {i : ι} (h : f i = ⊤) : ∑ j, f j = ⊤ := by
  refine top_le_iff.1 ?_
  rw [← h]
  exact Finset.single_le_sum (fun j _ => h0 j) (Finset.mem_univ i)

/-- A hinge value is not negative. -/
theorem hinge_nonneg (v : EReal) : 0 ≤ hinge v := sq_nonneg _

/-- A penalty is not negative. -/
theorem push_nonneg (i j : Fin 64) (v : EReal) : 0 ≤ push i j v := by
  unfold push
  split
  · exact le_rfl
  · exact sq_nonneg _

/-- A root of what is not negative is not negative. -/
theorem sqrt_nonneg {v : EReal} (h : 0 ≤ v) : 0 ≤ Ideal.sqrt v := by
  induction v with
  | bot => exact h
  | top => exact le_top
  | coe a =>
    rw [Ideal.sqrt_coe, if_neg (not_lt.2 (by exact_mod_cast h))]
    exact_mod_cast Real.sqrt_nonneg a

/-- A norm is not negative. -/
theorem normOf_nonneg (v : EReal) : 0 ≤ normOf v := sqrt_nonneg (floor_word.trans (le_max_right _ _))

/-- The hinge value of an infinite squared distance. -/
theorem hinge_top : hinge ⊤ = ⊤ := by
  unfold hinge
  rw [max_eq_left le_top, Ideal.sqrt_top, half_word, EReal.top_sub_coe, max_eq_left le_top]
  rfl

/-- The weighted sum is plus infinity where its first term is and the others are not negative. -/
theorem weigh_top {a b c : EReal} (ha : a = ⊤) (hb : 0 ≤ b) (hc : 0 ≤ c) : weigh a b c = ⊤ := by
  unfold weigh
  rw [ha, word_64, word_4032, Ideal.div_coe (by norm_num), Ideal.div_coe (by norm_num), Ideal.div_coe (by norm_num),
    EReal.top_mul_coe_of_pos (by norm_num), EReal.mul_top_of_pos alpha_word]
  have h1 : 0 ≤ b * ((1 / 4032 : ℝ) : EReal) := mul_nonneg hb (by exact_mod_cast (by norm_num : (0 : ℝ) ≤ 1 / 4032))
  have h2 : 0 ≤ Ideal.ofBits .f32 0x3A83126F#32 * (c * ((1 / 64 : ℝ) : EReal)) :=
    mul_nonneg gamma_word (mul_nonneg hc (by exact_mod_cast (by norm_num : (0 : ℝ) ≤ 1 / 64)))
  rw [EReal.top_add_of_ne_bot (ne_of_gt (lt_of_lt_of_le EReal.bot_lt_zero h1)), EReal.top_add_of_ne_bot (ne_of_gt (lt_of_lt_of_le EReal.bot_lt_zero h2))]

section

variable {x : Fin 160000 → Fin 256 → EReal} {w : Fin 160000 → BitVec 32}

/-- A loss with an infinite squared distance of a point to its mean is plus infinity. -/
theorem lossOf_top {g : Fin 160000 → Fin 64 → EReal} (a : Fin 64 → Fin 64 → EReal) {r : Fin 160000} {k : Fin 64} (h : w r = num k) (hg : g r k = ⊤) :
    lossOf x w g a = ⊤ := by
  have hp : ∀ k, ∀ r, 0 ≤ if w r = num k then hinge (g r k) else 0 := fun k r => by
    split
    · exact hinge_nonneg _
    · exact le_rfl
  have ht : pull w g k = ⊤ := sum_top (hp k) (i := r) (by rw [if_pos h, hg, hinge_top])
  refine weigh_top (sum_top (i := k) (fun k' => ?_) ?_) (Finset.sum_nonneg fun i _ => Finset.sum_nonneg fun j _ => push_nonneg _ _ _)
    (Finset.sum_nonneg fun k _ => normOf_nonneg _)
  · obtain ⟨b, hb, e⟩ := div_den w k'
    rw [e]
    exact mul_nonneg (Finset.sum_nonneg fun r _ => hp k' r) (by exact_mod_cast hb.le)
  · obtain ⟨b, hb, e⟩ := div_den w k
    rw [e, ht, EReal.top_mul_coe_of_pos hb]

/-- An infinite coordinate of a point makes the same coordinate of its mean infinite. -/
theorem mean_inf {r : Fin 160000} {k : Fin 64} {d : Fin 256} (h : w r = num k) (hx : Inf (x r d)) : Inf (mean x w k d) := by
  obtain ⟨a, ha, e⟩ := div_den w k
  unfold mean tot
  rw [e]
  exact Inf.mul (Inf.sum (i := r) (by rw [if_pos h]; exact hx)) ha

/-- A point with an infinite coordinate is infinitely far from its mean. -/
theorem gap_top {r : Fin 160000} {k : Fin 64} {d : Fin 256} (h : w r = num k) (hx : Inf (x r d)) : gap x w r k = ⊤ :=
  sum_top (i := d) (fun _ => sq_nonneg _) (Inf.sq (hx.add _))

/-- So it is by the kernel's squared distance. -/
theorem gap'_top {r : Fin 160000} {k : Fin 64} {d : Fin 256} (h : w r = num k) (hx : Inf (x r d)) : gap' x w r k = ⊤ := by
  have e1 : (∑ d, x r d * x r d) = ⊤ := sum_top (i := d) (fun _ => sq_nonneg _) hx.sq
  have e2 : size x w k = ⊤ := sum_top (i := d) (fun _ => sq_nonneg _) (mean_inf h hx).sq
  unfold gap'
  rw [e1, e2, EReal.sub_top]
  rfl

variable (x w)

/-- The kernel's squared distances give the loss, for all points and labels. -/
theorem lossOf_eq : lossOf x w (gap' x w) (apart' x w) = loss x w := by
  by_cases H : AllReal x w
  · exact H.loss
  · unfold AllReal at H
    push Not at H
    obtain ⟨r, k, h, d, hx⟩ := H
    have hx' : Inf (x r d) := inf_of _ fun ⟨a, e⟩ => hx a e
    exact (lossOf_top _ h (gap'_top h hx')).trans (lossOf_top _ h (gap_top h hx')).symm

end

end Cert.Loss

end
-- ==== Proof.KernelIdeal.Totals.lean ====
module

public import proofs.«01_k».proof.Proof.KernelIdeal.Blocks
public import proofs.«01_k».proof.Proof.KernelIdeal.Pay
public import proofs.«01_k».proof.Proof.KernelIdeal.Result
public import proofs.«01_k».proof.Proof.Expand

@[expose] public section

set_option maxRecDepth 16384

noncomputable section

namespace Cert.KernelIdeal.Hand

open Cert.KernelIdeal Cert.KernelIdeal.Gen
open Cert.Loss
open Idealize.ShloMosaic Idealize.ShloMosaic.TcCoe Idealize.SL.Sem

/-! ## What the kernel's totals are -/

/-- A sum over 20 blocks of 8000 rows is the sum over all rows. -/
theorem sum_rows (f : Fin 160000 → EReal) : ∑ j : Fin 20, ∑ r : Fin 8000, f (row j r) = ∑ r, f r :=
  (Fin.sum_univ_tiles 20 8000 rfl f).symm

section

variable (m : (ℓ : Loc nD τ sig) → Buf (Elt Ideal) ℓ) (c : Dev nD)

/-- The points the feature array holds. -/
def feats (r : Fin 160000) (d : Fin 256) : EReal := m ((c.tc : Thread nD τ).loc main_arg0) (ix2 r d)

/-- The label words the label array holds. -/
def labs (r : Fin 160000) : BitVec 32 := m ((c.tc : Thread nD τ).loc main_arg1) (ix1 r)

/-- The block of labels at pass 0. -/
theorem lblk_0 (n : Fin 20) (r : Fin 8000) : lblk m c n.val (ix3 0 0 r) = labs m c (row n r) :=
  lblk_at m c n.val (by have := n.isLt; omega) n (Nat.mod_eq_of_lt n.isLt) r

/-- The block of labels at pass 1. -/
theorem lblk_1 (n : Fin 20) (r : Fin 8000) : lblk m c (20 + n.val) (ix3 0 0 r) = labs m c (row n r) :=
  lblk_at m c (20 + n.val) (by have := n.isLt; omega) n (by have := n.isLt; omega) r

/-- The first `n` blocks' sums. -/
theorem sumsAt_range (k : Fin 64) (d : Fin 256) (n : ℕ) :
    sumsAt m c n (ix2 k d) = ∑ j ∈ Finset.range n, ∑ r : Fin 8000, hot (lblk m c j (ix3 0 0 r)) k * fblk m c j (ix2 r d) := by
  induction n with
  | zero => exact (pay3_at k d).trans (by simp)
  | succ n ih =>
    rw [Finset.sum_range_succ, ← ih]
    exact pay7_at _ _ _ k d

/-- The first `n` blocks' counts. -/
theorem countsAt_range (k : Fin 64) (n : ℕ) :
    countsAt m c n (ix2 k 0) = ∑ j ∈ Finset.range n, ∑ r : Fin 8000, hot (lblk m c j (ix3 0 0 r)) k := by
  induction n with
  | zero => exact (pay4_at k).trans (by simp)
  | succ n ih =>
    rw [Finset.sum_range_succ, ← ih]
    exact pay8_at _ _ k

/-- The clusters' sums after pass 0. -/
theorem sums_eq (k : Fin 64) (d : Fin 256) : sumsAt m c 20 (ix2 k d) = tot (feats m c) (labs m c) k d := by
  rw [sumsAt_range, Finset.sum_range]
  unfold tot
  rw [← sum_rows]
  refine Finset.sum_congr rfl fun j _ => Finset.sum_congr rfl fun r _ => ?_
  rw [lblk_0, hot_mul, fblk_at]
  rfl

/-- The clusters' counts after pass 0. -/
theorem counts_eq (k : Fin 64) : countsAt m c 20 (ix2 k 0) = cnt (labs m c) k := by
  rw [countsAt_range, Finset.sum_range]
  unfold cnt
  rw [← sum_rows]
  refine Finset.sum_congr rfl fun j _ => Finset.sum_congr rfl fun r _ => ?_
  rw [lblk_0]
  rfl

/-- The quotient of a cluster's sum and count is its mean. -/
theorem quot (k : Fin 64) (d : Fin 256) :
    Ideal.div (sumsAt m c 20 (ix2 k d)) (max (countsAt m c 20 (ix2 k 0)) 1) = mean (feats m c) (labs m c) k d := by
  rw [counts_eq, sums_eq]
  rfl

/-- The means. -/
theorem means_eq (k : Fin 64) (d : Fin 256) : meansV m c (ix2 k d) = mean (feats m c) (labs m c) k d :=
  (pay12_at _ _ k d).trans (quot m c k d)

/-- The squared norms of the means, as the kernel sums them. -/
theorem normSum (k : Fin 64) :
    (∑ d : Fin 256, Ideal.div (sumsAt m c 20 (ix2 k d)) (max (countsAt m c 20 (ix2 k 0)) 1) * Ideal.div (sumsAt m c 20 (ix2 k d)) (max (countsAt m c 20 (ix2 k 0)) 1))
      = size (feats m c) (labs m c) k :=
  Finset.sum_congr rfl fun d _ => by rw [quot]

/-- The squared norms of the means. -/
theorem nm_eq (k : Fin 64) : nmV m c (ix2 k 0) = size (feats m c) (labs m c) k :=
  (pay13_at _ _ k).trans (normSum m c k)

/-- The clusters' hinge sums over the first `n` blocks of pass 1. -/
theorem hcAt_range (k : Fin 64) (n : ℕ) :
    hcAt m c n (ix2 k 0) = ∑ j ∈ Finset.range n, ∑ r : Fin 8000, hot (lblk m c (20 + j) (ix3 0 0 r)) k
      * hinge (k0_pay9 (F := Ideal) (fblk m c j) (ix2 0 r) - ∑ k' : Fin 64, (Ideal.ofBits .f32 0x40000000#32
        * (∑ d : Fin 256, meansV m c (ix2 k' d) * k0_pay10 (F := Ideal) (fblk m c j) (ix2 r d)) - nmV m c (ix2 k' 0)) * hot (lblk m c (20 + j) (ix3 0 0 r)) k') := by
  induction n with
  | zero => exact (pay5_at k).trans (by simp)
  | succ n ih =>
    rw [Finset.sum_range_succ, ← ih]
    exact pay14_at _ _ _ _ _ _ k

/-- The squared distance the kernel takes for a point of cluster `k`. -/
theorem spread_eq (n : Fin 20) (r : Fin 8000) (k : Fin 64) (h : labs m c (row n r) = num k) :
    k0_pay9 (F := Ideal) (fblk m c n.val) (ix2 0 r) - ∑ k' : Fin 64, (Ideal.ofBits .f32 0x40000000#32
        * (∑ d : Fin 256, meansV m c (ix2 k' d) * k0_pay10 (F := Ideal) (fblk m c n.val) (ix2 r d)) - nmV m c (ix2 k' 0)) * hot (lblk m c (20 + n.val) (ix3 0 0 r)) k'
      = gap' (feats m c) (labs m c) (row n r) k := by
  rw [lblk_1, h, sum_hot, pay9_at, nm_eq]
  have e1 : (∑ d : Fin 256, meansV m c (ix2 k d) * k0_pay10 (F := Ideal) (fblk m c n.val) (ix2 r d))
      = ∑ d : Fin 256, mean (feats m c) (labs m c) k d * feats m c (row n r) d :=
    Finset.sum_congr rfl fun d _ => by rw [means_eq, pay10_at, fblk_at]; rfl
  have e2 : (∑ d : Fin 256, fblk m c n.val (ix2 r d) * fblk m c n.val (ix2 r d)) = ∑ d : Fin 256, feats m c (row n r) d * feats m c (row n r) d :=
    Finset.sum_congr rfl fun d _ => by rw [fblk_at]; rfl
  rw [e1, e2]
  rfl

/-- The clusters' hinge sums after pass 1. -/
theorem hc_eq (k : Fin 64) : hcAt m c 20 (ix2 k 0) = pull (labs m c) (gap' (feats m c) (labs m c)) k := by
  rw [hcAt_range, Finset.sum_range]
  unfold pull
  rw [← sum_rows]
  refine Finset.sum_congr rfl fun j _ => Finset.sum_congr rfl fun r _ => ?_
  rw [hot_mul, lblk_1]
  by_cases h : labs m c (row j r) = num k
  · rw [if_pos h, if_pos h, ← spread_eq m c j r k h, lblk_1]
  · rw [if_neg h, if_neg h]

/-- The kernel's sum over pairs of clusters. -/
theorem pairs_eq :
    k0_pay18 (F := Ideal) (countsAt m c 20) (sumsAt m c 20) (nmV m c) (ix3 0 0 0) = ∑ i, ∑ j, push i j (apart' (feats m c) (labs m c) i j) := by
  rw [pay18_at]
  refine Finset.sum_congr rfl fun i _ => Finset.sum_congr rfl fun j _ => congrArg (push i j) ?_
  have e : (∑ d : Fin 256, Ideal.div (sumsAt m c 20 (ix2 i d)) (max (countsAt m c 20 (ix2 i 0)) 1) * Ideal.div (sumsAt m c 20 (ix2 j d)) (max (countsAt m c 20 (ix2 j 0)) 1))
      = ∑ d : Fin 256, mean (feats m c) (labs m c) i d * mean (feats m c) (labs m c) j d :=
    Finset.sum_congr rfl fun d _ => by rw [quot, quot]
  rw [normSum, nm_eq, e]
  rfl

/-- The kernel's loss. -/
theorem lossV_eq : lossV m c (ix2 0 0) = loss (feats m c) (labs m c) := by
  rw [← lossOf_eq]
  refine (pay15_at _ _ _ _).trans ?_
  unfold lossOf
  rw [pairs_eq, Finset.sum_congr rfl fun k _ => by rw [hc_eq, counts_eq], Finset.sum_congr rfl fun k _ => congrArg normOf (nm_eq m c k)]
  rfl

/-- The result of the kernel is the loss. -/
theorem result_loss : result m c = fun _ => loss (feats m c) (labs m c) := by
  funext i
  refine Eq.trans ?_ (lossV_eq m c)
  exact scalar_at _ i

end

end Cert.KernelIdeal.Hand

end
-- ==== Proof.Equation.lean ====
module

public import proofs.«01_k».proof.Defs
public import proofs.«01_k».proof.Proof.KernelIdeal.Totals
public import proofs.«01_k».proof.Proof.ReferenceIdeal.Value

@[expose] public section

noncomputable section

namespace Cert.Proof

open Idealize.ShloMosaic Idealize.ShloMosaic.TcCoe Idealize.SL.Sem

/-! ## The kernel and the reference compute the same loss -/

/-- Where the two memories agree on the arguments both results are the same. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev 1)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Value.res_main_v69 m' c = Cert.KernelIdeal.Hand.result m c := by
  rw [Cert.ReferenceIdeal.Hand.res_eq, h0, h1, Cert.KernelIdeal.Hand.result_loss, Cert.ReferenceIdeal.Hand.refLoss_eq]
  rfl

end Cert.Proof

end
-- ==== Proof.lean ====
module

public import proofs.«01_k».proof.Defs
public import proofs.«01_k».proof.Proof.KernelFrame
public import proofs.«01_k».proof.Proof.Gen.Reference
public import proofs.«01_k».proof.Proof.ReferenceFrame
public import proofs.«01_k».proof.Proof.Equation

@[expose] public section

noncomputable section

namespace Cert.Proof

open Idealize.ShloMosaic Idealize.SL.Sem

/-- The kernel and the reference, run from memories that agree on the arguments, end with one and the same loss. -/
theorem algebraic : Cert.algebraic_KernelIdeal_ReferenceIdeal (hKernelIdeal := Cert.KernelIdeal.Gen.facts) (hReferenceIdeal := Cert.ReferenceIdeal.Gen.facts) :=
  fun m g m' g' _ hag => ⟨fun c => Cert.KernelIdeal.Hand.result m c, Cert.KernelIdeal.Hand.run_value m g,
    (θ_run Cert.ReferenceIdeal.defs _ _).mono (fun _ h c => ⟨(h c).1.trans (results_eq m m' c (hag c).1 (hag c).2), (h c).2⟩)
      (Cert.ReferenceIdeal.Value.run m' g')⟩

/-- Everything the certificate claims. -/
theorem claim : Cert.Claim :=
  ⟨Cert.Kernel.Gen.facts, Cert.KernelIdeal.Gen.facts, Cert.Reference.Gen.facts, Cert.ReferenceIdeal.Gen.facts,
    Cert.Kernel.Hand.frame, fun m g _ => Cert.KernelIdeal.Hand.frame_quiescent m g,
    Cert.Reference.Hand.frame, fun m g _ => Cert.ReferenceIdeal.Hand.frame_quiescent m g, trivial, trivial, algebraic⟩

end Cert.Proof

end
